-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_levels" .f32 0x3B808081#32 ((1 / 255 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S53x1024x2048 : Shape := ⟨3, ![53, 1024, 2048]⟩
abbrev S2048 : Shape := ⟨1, ![2048]⟩
abbrev S1x2048 : Shape := ⟨2, ![1, 2048]⟩
abbrev S8x2048 : Shape := ⟨2, ![8, 2048]⟩
abbrev S54272x2048 : Shape := ⟨2, ![54272, 2048]⟩
abbrev S53x1x1024 : Shape := ⟨3, ![53, 1, 1024]⟩
abbrev S1024x2048 : Shape := ⟨2, ![1024, 2048]⟩
abbrev S1x1x1024 : Shape := ⟨3, ![1, 1, 1024]⟩
abbrev S1024x128 : Shape := ⟨2, ![1024, 128]⟩
abbrev S8x128 : Shape := ⟨2, ![8, 128]⟩
abbrev S8x256 : Shape := ⟨2, ![8, 256]⟩
abbrev S8 : Shape := ⟨1, ![8]⟩
abbrev S8x1 : Shape := ⟨2, ![8, 1]⟩
abbrev S128x128 : Shape := ⟨2, ![128, 128]⟩
abbrev S1x128 : Shape := ⟨2, ![1, 128]⟩
abbrev S1x1x128 : Shape := ⟨3, ![1, 1, 128]⟩
abbrev S32x128 : Shape := ⟨2, ![32, 128]⟩

abbrev nBuf : Space → Nat
  | .hbm => 12
  | .vmem => 20
  | .smem => 0
  | _ => 0

abbrev bufTy : (tb : Table) → Fin (tcTables nBuf tb) → BufTy
  | .hbm, ⟨0, _⟩ => ⟨S53x1024x2048, .bf16⟩
  | .hbm, ⟨1, _⟩ => ⟨S53x1024x2048, .bf16⟩
  | .hbm, ⟨2, _⟩ => ⟨S2048, .bf16⟩
  | .hbm, ⟨3, _⟩ => ⟨S2048, .f32⟩
  | .hbm, ⟨4, _⟩ => ⟨S1x2048, .f32⟩
  | .hbm, ⟨5, _⟩ => ⟨S8x2048, .f32⟩
  | .hbm, ⟨6, _⟩ => ⟨S54272x2048, .bf16⟩
  | .hbm, ⟨7, _⟩ => ⟨S54272x2048, .bf16⟩
  | .hbm, ⟨8, _⟩ => ⟨S54272x2048, .bf16⟩
  | .hbm, ⟨9, _⟩ => ⟨S54272x2048, .i8⟩
  | .hbm, ⟨10, _⟩ => ⟨S53x1x1024, .f32⟩
  | .hbm, ⟨11, _⟩ => ⟨S53x1x1024, .i32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x2048, .f32⟩
  | .local _ .vmem, ⟨5, _⟩ => ⟨S1024x2048, .bf16⟩
  | .local _ .vmem, ⟨6, _⟩ => ⟨S1024x2048, .bf16⟩
  | .local _ .vmem, ⟨7, _⟩ => ⟨S1024x2048, .i8⟩
  | .local _ .vmem, ⟨8, _⟩ => ⟨S1024x2048, .i8⟩
  | .local _ .vmem, ⟨9, _⟩ => ⟨S1x1x1024, .f32⟩
  | .local _ .vmem, ⟨10, _⟩ => ⟨S1x1x1024, .f32⟩
  | .local _ .vmem, ⟨11, _⟩ => ⟨S1x1x1024, .i32⟩
  | .local _ .vmem, ⟨12, _⟩ => ⟨S1x1x1024, .i32⟩
  | .local _ .vmem, ⟨13, _⟩ => ⟨S1024x2048, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S53x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![53], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  v94
def k0_off1 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v97 : Index := Scalar.indexCast v96
  let c0_69 : Index := 0#32
  ![v97.toNat, 0]
def k0_off2 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v111 : Index := Scalar.indexCast v96
  let c0_74 : Index := 0#32
  ![v111.toNat, 0]
def k0_off3 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v120 : Index := Scalar.indexCast v96
  let c128_77 : Index := 128#32
  ![v120.toNat, 128]
def k0_off4 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v128 : Index := Scalar.indexCast v96
  let c256_78 : Index := 256#32
  ![v128.toNat, 256]
def k0_off5 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v142 : Index := Scalar.indexCast v96
  let c256_83 : Index := 256#32
  ![v142.toNat, 256]
def k0_off6 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v154 : Index := Scalar.indexCast v96
  let c384_86 : Index := 384#32
  ![v154.toNat, 384]
def k0_off7 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v162 : Index := Scalar.indexCast v96
  let c512_87 : Index := 512#32
  ![v162.toNat, 512]
def k0_off8 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v176 : Index := Scalar.indexCast v96
  let c512_92 : Index := 512#32
  ![v176.toNat, 512]
def k0_off9 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v188 : Index := Scalar.indexCast v96
  let c640_95 : Index := 640#32
  ![v188.toNat, 640]
def k0_off10 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v196 : Index := Scalar.indexCast v96
  let c768_96 : Index := 768#32
  ![v196.toNat, 768]
def k0_off11 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v210 : Index := Scalar.indexCast v96
  let c768_101 : Index := 768#32
  ![v210.toNat, 768]
def k0_off12 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v222 : Index := Scalar.indexCast v96
  let c896_104 : Index := 896#32
  ![v222.toNat, 896]
def k0_off13 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v230 : Index := Scalar.indexCast v96
  let c1024 : Index := 1024#32
  ![v230.toNat, 1024]
def k0_off14 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v244 : Index := Scalar.indexCast v96
  let c1024_109 : Index := 1024#32
  ![v244.toNat, 1024]
def k0_off15 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v256 : Index := Scalar.indexCast v96
  let c1152_111 : Index := 1152#32
  ![v256.toNat, 1152]
def k0_off16 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v264 : Index := Scalar.indexCast v96
  let c1280 : Index := 1280#32
  ![v264.toNat, 1280]
def k0_off17 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v278 : Index := Scalar.indexCast v96
  let c1280_116 : Index := 1280#32
  ![v278.toNat, 1280]
def k0_off18 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v290 : Index := Scalar.indexCast v96
  let c1408_118 : Index := 1408#32
  ![v290.toNat, 1408]
def k0_off19 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v298 : Index := Scalar.indexCast v96
  let c1536 : Index := 1536#32
  ![v298.toNat, 1536]
def k0_off20 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v312 : Index := Scalar.indexCast v96
  let c1536_123 : Index := 1536#32
  ![v312.toNat, 1536]
def k0_off21 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v324 : Index := Scalar.indexCast v96
  let c1664_125 : Index := 1664#32
  ![v324.toNat, 1664]
def k0_off22 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v332 : Index := Scalar.indexCast v96
  let c1792 : Index := 1792#32
  ![v332.toNat, 1792]
def k0_off23 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v346 : Index := Scalar.indexCast v96
  let c1792_130 : Index := 1792#32
  ![v346.toNat, 1792]
def k0_off24 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v358 : Index := Scalar.indexCast v96
  let c1920_132 : Index := 1920#32
  ![v358.toNat, 1920]
def k0_off25 (k0_t1 : Fin k0_t1_loop.trips) (c0_i32_68 : BitVec 32) : Fin 2 → Nat :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v366 : Index := Scalar.indexCast v96
  let c0_133 : Index := 0#32
  ![v366.toNat, 0]
def k0_mult2 (k0_t1 : Fin k0_t1_loop.trips) : BitVec 32 :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_136 : BitVec 32 := 32#32
  let v378 : BitVec 32 := Scalar.muli v93 c32_i32_136
  v378
def k0_mult3 (k0_t1 : Fin k0_t1_loop.trips) : BitVec 32 :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_212 : BitVec 32 := 32#32
  let v662 : BitVec 32 := Scalar.muli v93 c32_i32_212
  v662
def k0_mult4 (k0_t1 : Fin k0_t1_loop.trips) : BitVec 32 :=
  let c0_i32_66 : BitVec 32 := 0#32
  let c0_i32 : BitVec 32 := 0#32
  let c1_i32 : BitVec 32 := 1#32
  let arg15 : BitVec 32 := Scf.iv c0_i32 c1_i32 k0_t1
  let c1_i32_65 : BitVec 32 := 1#32
  let v92 : BitVec 32 := Scalar.muli arg15 c1_i32_65
  let v93 : BitVec 32 := Scalar.addi c0_i32_66 v92
  let c32_i32_288 : BitVec 32 := 32#32
  let v946 : BitVec 32 := Scalar.muli v93 c32_i32_288
  v946
@[reducible] def k0_t2_loop : Scf.Loop 32 :=
  let c0_i32_1 : BitVec 32 := 0#32
  let c32_i32_2 : BitVec 32 := 32#32
  let v2 : BitVec 32 := Scalar.addi c0_i32_1 c32_i32_2
  let c1_i32_3 : BitVec 32 := 1#32
  ⟨c0_i32_1, v2, c1_i32_3⟩
def k0_mult5 (k0_t2 : Fin k0_t2_loop.trips) : BitVec 32 :=
  let c0_i32_66 : BitVec 32 := 0#32
  let c0_i32_1 : BitVec 32 := 0#32
  let c1_i32_3 : BitVec 32 := 1#32
  let arg15 : BitVec 32 := Scf.iv c0_i32_1 c1_i32_3 k0_t2
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  v94
def k0_off26 (k0_t2 : Fin k0_t2_loop.trips) (c0_i32_68 : BitVec 32) : Fin 2 → Nat :=
  let c0_i32_66 : BitVec 32 := 0#32
  let c0_i32_1 : BitVec 32 := 0#32
  let c1_i32_3 : BitVec 32 := 1#32
  let arg15 : BitVec 32 := Scf.iv c0_i32_1 c1_i32_3 k0_t2
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : BitVec 32 := Scalar.addi v95 c0_i32_68
  let v97 : Index := Scalar.indexCast v96
  let c0_69 : Index := 0#32
  ![v97.toNat, 0]
def k0_mult6 (k0_t2 : Fin k0_t2_loop.trips) : BitVec 32 :=
  let c0_i32_66 : BitVec 32 := 0#32
  let c0_i32_1 : BitVec 32 := 0#32
  let c1_i32_3 : BitVec 32 := 1#32
  let arg15 : BitVec 32 := Scf.iv c0_i32_1 c1_i32_3 k0_t2
  let c1_i32_65 : BitVec 32 := 1#32
  let v92 : BitVec 32 := Scalar.muli arg15 c1_i32_65
  let v93 : BitVec 32 := Scalar.addi c0_i32_66 v92
  let c32_i32_84 : BitVec 32 := 32#32
  let v154 : BitVec 32 := Scalar.muli v93 c32_i32_84
  v154
def k0_mult7 (k0_t2 : Fin k0_t2_loop.trips) : BitVec 32 :=
  let c0_i32_66 : BitVec 32 := 0#32
  let c0_i32_1 : BitVec 32 := 0#32
  let c1_i32_3 : BitVec 32 := 1#32
  let arg15 : BitVec 32 := Scf.iv c0_i32_1 c1_i32_3 k0_t2
  let c1_i32_65 : BitVec 32 := 1#32
  let v92 : BitVec 32 := Scalar.muli arg15 c1_i32_65
  let v93 : BitVec 32 := Scalar.addi c0_i32_66 v92
  let c32_i32_102 : BitVec 32 := 32#32
  let v214 : BitVec 32 := Scalar.muli v93 c32_i32_102
  v214
def k0_mult8 (k0_t2 : Fin k0_t2_loop.trips) : BitVec 32 :=
  let c0_i32_66 : BitVec 32 := 0#32
  let c0_i32_1 : BitVec 32 := 0#32
  let c1_i32_3 : BitVec 32 := 1#32
  let arg15 : BitVec 32 := Scf.iv c0_i32_1 c1_i32_3 k0_t2
  let c1_i32_65 : BitVec 32 := 1#32
  let v92 : BitVec 32 := Scalar.muli arg15 c1_i32_65
  let v93 : BitVec 32 := Scalar.addi c0_i32_66 v92
  let c32_i32_120 : BitVec 32 := 32#32
  let v274 : BitVec 32 := Scalar.muli v93 c32_i32_120
  v274
@[reducible] def k0_t3_loop : Scf.Loop 32 :=
  let c0_i32_61 : BitVec 32 := 0#32
  let c32_i32_62 : BitVec 32 := 32#32
  let v91 : BitVec 32 := Scalar.addi c0_i32_61 c32_i32_62
  let c1_i32_63 : BitVec 32 := 1#32
  ⟨c0_i32_61, v91, c1_i32_63⟩
def k0_mult9 (k0_t3 : Fin k0_t3_loop.trips) : BitVec 32 :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  v94
def k0_off27 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v96 : Index := Scalar.indexCast v95
  let c0_68 : Index := 0#32
  ![v96.toNat, 0]
def k0_off28 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v100 : Index := Scalar.indexCast v95
  let c0_70 : Index := 0#32
  ![v100.toNat, 0]
def k0_off29 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v113 : Index := Scalar.indexCast v95
  let c128_73 : Index := 128#32
  ![v113.toNat, 128]
def k0_off30 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v126 : Index := Scalar.indexCast v95
  let c256_77 : Index := 256#32
  ![v126.toNat, 256]
def k0_off31 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v139 : Index := Scalar.indexCast v95
  let c384_81 : Index := 384#32
  ![v139.toNat, 384]
def k0_off32 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v152 : Index := Scalar.indexCast v95
  let c512_85 : Index := 512#32
  ![v152.toNat, 512]
def k0_off33 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v165 : Index := Scalar.indexCast v95
  let c640_89 : Index := 640#32
  ![v165.toNat, 640]
def k0_off34 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v178 : Index := Scalar.indexCast v95
  let c768_93 : Index := 768#32
  ![v178.toNat, 768]
def k0_off35 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v191 : Index := Scalar.indexCast v95
  let c896_97 : Index := 896#32
  ![v191.toNat, 896]
def k0_off36 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v204 : Index := Scalar.indexCast v95
  let c1024 : Index := 1024#32
  ![v204.toNat, 1024]
def k0_off37 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v217 : Index := Scalar.indexCast v95
  let c1152 : Index := 1152#32
  ![v217.toNat, 1152]
def k0_off38 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v230 : Index := Scalar.indexCast v95
  let c1280 : Index := 1280#32
  ![v230.toNat, 1280]
def k0_off39 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v243 : Index := Scalar.indexCast v95
  let c1408 : Index := 1408#32
  ![v243.toNat, 1408]
def k0_off40 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v256 : Index := Scalar.indexCast v95
  let c1536 : Index := 1536#32
  ![v256.toNat, 1536]
def k0_off41 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v269 : Index := Scalar.indexCast v95
  let c1664 : Index := 1664#32
  ![v269.toNat, 1664]
def k0_off42 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v282 : Index := Scalar.indexCast v95
  let c1792 : Index := 1792#32
  ![v282.toNat, 1792]
def k0_off43 (k0_t3 : Fin k0_t3_loop.trips) : Fin 2 → Nat :=
  let c0_i32_66 : BitVec 32 := 0#32
  let c0_i32_61 : BitVec 32 := 0#32
  let c1_i32_63 : BitVec 32 := 1#32
  let arg15 : BitVec 32 := Scf.iv c0_i32_61 c1_i32_63 k0_t3
  let c1_i32_65 : BitVec 32 := 1#32
  let v92 : BitVec 32 := Scalar.muli arg15 c1_i32_65
  let v93 : BitVec 32 := Scalar.addi c0_i32_66 v92
  let c32_i32_67 : BitVec 32 := 32#32
  let v94 : BitVec 32 := Scalar.muli v93 c32_i32_67
  let v95 : BitVec 32 := v94
  let v295 : Index := Scalar.indexCast v95
  let c1920 : Index := 1920#32
  ![v295.toNat, 1920]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_levels" => some ((1 / 255 : ℝ) : EReal)
  | _ => none
-- ==== ReferenceIdeal.lean ====
abbrev S53x1024x2048 : Shape := ⟨3, ![53, 1024, 2048]⟩
abbrev S2048 : Shape := ⟨1, ![2048]⟩
abbrev S_ : Shape := ⟨0, ![]⟩
abbrev S53x1024 : Shape := ⟨2, ![53, 1024]⟩
abbrev S53x1024x1 : Shape := ⟨3, ![53, 1024, 1]⟩
abbrev S1x1x2048 : Shape := ⟨3, ![1, 1, 2048]⟩
abbrev S54272x2048 : Shape := ⟨2, ![54272, 2048]⟩
abbrev S53x1x1024 : Shape := ⟨3, ![53, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S53x1024x2048, .bf16⟩
  | .hbm, ⟨1, _⟩ => ⟨S53x1024x2048, .bf16⟩
  | .hbm, ⟨2, _⟩ => ⟨S2048, .bf16⟩
  | .hbm, ⟨3, _⟩ => ⟨S53x1024x2048, .f32⟩
  | .hbm, ⟨4, _⟩ => ⟨S53x1024x2048, .f32⟩
  | .hbm, ⟨5, _⟩ => ⟨S53x1024x2048, .f32⟩
  | .hbm, ⟨6, _⟩ => ⟨S53x1024x2048, .bf16⟩
  | .hbm, ⟨7, _⟩ => ⟨S53x1024x2048, .f32⟩
  | .hbm, ⟨8, _⟩ => ⟨S53x1024x2048, .f32⟩
  | .hbm, ⟨9, _⟩ => ⟨S_, .f32⟩
  | .hbm, ⟨10, _⟩ => ⟨S53x1024, .f32⟩
  | .hbm, ⟨11, _⟩ => ⟨S53x1024x1, .f32⟩
  | .hbm, ⟨12, _⟩ => ⟨S_, .f32⟩
  | .hbm, ⟨13, _⟩ => ⟨S53x1024x1, .f32⟩
  | .hbm, ⟨14, _⟩ => ⟨S53x1024x1, .f32⟩
  | .hbm, ⟨15, _⟩ => ⟨S_, .f32⟩
  | .hbm, ⟨16, _⟩ => ⟨S53x1024x1, .f32⟩
  | .hbm, ⟨17, _⟩ => ⟨S53x1024x1, .f32⟩
  | .hbm, ⟨18, _⟩ => ⟨S53x1024x1, .f32⟩
  | .hbm, ⟨19, _⟩ => ⟨S53x1024x2048, .f32⟩
  | .hbm, ⟨20, _⟩ => ⟨S53x1024x2048, .f32⟩
  | .hbm, ⟨21, _⟩ => ⟨S2048, .f32⟩
  | .hbm, ⟨22, _⟩ => ⟨S1x1x2048, .f32⟩
  | .hbm, ⟨23, _⟩ => ⟨S53x1024x2048, .f32⟩
  | .hbm, ⟨24, _⟩ => ⟨S53x1024x2048, .f32⟩
  | .hbm, ⟨25, _⟩ => ⟨S_, .f32⟩
  | .hbm, ⟨26, _⟩ => ⟨S53x1024, .f32⟩
  | .hbm, ⟨27, _⟩ => ⟨S53x1024x1, .f32⟩
  | .hbm, ⟨28, _⟩ => ⟨S_, .f32⟩
  | .hbm, ⟨29, _⟩ => ⟨S53x1024, .f32⟩
  | .hbm, ⟨30, _⟩ => ⟨S53x1024x1, .f32⟩
  | .hbm, ⟨31, _⟩ => ⟨S53x1024x1, .i1⟩
  | .hbm, ⟨32, _⟩ => ⟨S53x1024x1, .f32⟩
  | .hbm, ⟨33, _⟩ => ⟨S_, .f32⟩
  | .hbm, ⟨34, _⟩ => ⟨S53x1024x1, .f32⟩
  | .hbm, ⟨35, _⟩ => ⟨S53x1024x1, .f32⟩
  | .hbm, ⟨36, _⟩ => ⟨S_, .f32⟩
  | .hbm, ⟨37, _⟩ => ⟨S53x1024x1, .f32⟩
  | .hbm, ⟨38, _⟩ => ⟨S53x1024x1, .f32⟩
  | .hbm, ⟨39, _⟩ => ⟨S53x1024x1, .f32⟩
  | .hbm, ⟨40, _⟩ => ⟨S_, .f32⟩
  | .hbm, ⟨41, _⟩ => ⟨S53x1024x1, .f32⟩
  | .hbm, ⟨42, _⟩ => ⟨S53x1024x1, .f32⟩
  | .hbm, ⟨43, _⟩ => ⟨S53x1024x1, .f32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S53x1024x1, .f32⟩
  | .hbm, ⟨48, _⟩ => ⟨S53x1024x1, .f32⟩
  | .hbm, ⟨49, _⟩ => ⟨S_, .f32⟩
  | .hbm, ⟨50, _⟩ => ⟨S53x1024x1, .f32⟩
  | .hbm, ⟨51, _⟩ => ⟨S53x1024x1, .f32⟩
  | .hbm, ⟨52, _⟩ => ⟨S53x1024x1, .i32⟩
  | .hbm, ⟨53, _⟩ => ⟨S53x1024x2048, .f32⟩
  | .hbm, ⟨54, _⟩ => ⟨S53x1024x2048, .f32⟩
  | .hbm, ⟨55, _⟩ => ⟨S53x1024x2048, .f32⟩
  | .hbm, ⟨56, _⟩ => ⟨S53x1024x1, .f32⟩
  | .hbm, ⟨57, _⟩ => ⟨S53x1024x2048, .f32⟩
  | .hbm, ⟨58, _⟩ => ⟨S53x1024x2048, .f32⟩
  | .hbm, ⟨59, _⟩ => ⟨S_, .i32⟩
  | .hbm, ⟨60, _⟩ => ⟨S_, .i32⟩
  | .hbm, ⟨61, _⟩ => ⟨S_, .f32⟩
  | .hbm, ⟨62, _⟩ => ⟨S53x1024x2048, .f32⟩
  | .hbm, ⟨63, _⟩ => ⟨S53x1024x2048, .f32⟩
  | .hbm, ⟨64, _⟩ => ⟨S_, .f32⟩
  | .hbm, ⟨65, _⟩ => ⟨S53x1024x2048, .f32⟩
  | .hbm, ⟨66, _⟩ => ⟨S53x1024x2048, .f32⟩
  | .hbm, ⟨67, _⟩ => ⟨S53x1024x2048, .i32⟩
  | .hbm, ⟨68, _⟩ => ⟨S53x1024x2048, .i8⟩
  | .hbm, ⟨69, _⟩ => ⟨S54272x2048, .bf16⟩
  | .hbm, ⟨70, _⟩ => ⟨S54272x2048, .i8⟩
  | .hbm, ⟨71, _⟩ => ⟨S53x1x1024, .f32⟩
  | .hbm, ⟨72, _⟩ => ⟨S53x1x1024, .i32⟩
  | _, _ => ⟨S53x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_c_7 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_c_9 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩

abbrev nD : Nat := 1
abbrev τ : Topo := Topo.v7x

variable {F : FTy → Type} [FloatOps F]
-- ==== Proof.KernelFrame.lean ====
/-
  The frame of the kernel at any float instance: it runs to its end, leaves its arguments alone and every semaphore counter at
  zero. Nothing is said here of what it leaves in its four results, so every buffer but the inputs' is owned at contents
  nobody names.
-/
module

public import proofs.«01_k».proof.Proof.Gen.Kernel.Skeleton
public import proofs.«01_k».proof.Proof.Gen.Kernel.Loops
public import proofs.«01_k».proof.Proof.Gen.Kernel.Frame
public import Idealize.ShloMosaic.Lib.Claim

@[expose] public section

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at a point. -/
abbrev ms0_0 (t : Fin cfg0.N) : Memref sig .tc .vmem S1024x2048 .bf16 := win0_0.stage (cfg0.slots t 0)
abbrev ms0_1 (t : Fin cfg0.N) : Memref sig .tc .vmem S1024x2048 .bf16 := win0_1.stage (cfg0.slots t 1)
abbrev ms0_2 (t : Fin cfg0.N) : Memref sig .tc .vmem S8x2048 .f32 := win0_2.stage (cfg0.slots t 2)
abbrev ms0_3 (t : Fin cfg0.N) : Memref sig .tc .vmem S1024x2048 .bf16 := win0_3.stage (cfg0.slots t 3)
abbrev ms0_4 (t : Fin cfg0.N) : Memref sig .tc .vmem S1024x2048 .i8 := win0_4.stage (cfg0.slots t 4)
abbrev ms0_5 (t : Fin cfg0.N) : Memref sig .tc .vmem S1x1x1024 .f32 := win0_5.stage (cfg0.slots t 5)
abbrev ms0_6 (t : Fin cfg0.N) : Memref sig .tc .vmem S1x1x1024 .i32 := win0_6.stage (cfg0.slots t 6)

/-- The scratch buffers. -/
abbrev scM0_0 : Memref sig .tc .vmem S1024x2048 .f32 := Memref.whole cc0_scratch0
abbrev scM0_1 : Memref sig .tc .vmem S1024x128 .f32 := Memref.whole cc0_scratch1
abbrev scM0_2 : Memref sig .tc .vmem S1024x128 .f32 := Memref.whole cc0_scratch2
abbrev scM0_3 : Memref sig .tc .vmem S1024x128 .f32 := Memref.whole cc0_scratch3
abbrev scM0_4 : Memref sig .tc .vmem S1024x128 .f32 := Memref.whole cc0_scratch4
abbrev scM0_5 : Memref sig .tc .vmem S1024x128 .f32 := Memref.whole cc0_scratch5
abbrev scM0_6 : Memref sig .tc .vmem S1024x128 .f32 := Memref.whole cc0_scratch6

/-- The invariant between grid points: the scratch buffers owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- A run that leaves the input arrays unchanged leaves the arguments unchanged. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

-- the proof term walks the whole body
set_option maxHeartbeats 1000000 in
/-- The body on whole buffers: the inputs' end as they were, every other buffer at some contents. -/
theorem body_run (c : Dev nD) (i : grid0.Coords) (arg1 : Memref sig .tc .vmem S1024x2048 .bf16) (harg1 : arg1.IsWhole) (arg2 : Memref sig .tc .vmem S1024x2048 .bf16) (harg2 : arg2.IsWhole) (arg3 : Memref sig .tc .vmem S8x2048 .f32) (harg3 : arg3.IsWhole) (arg4 : Memref sig .tc .vmem S1024x2048 .bf16) (harg4 : arg4.IsWhole) (arg5 : Memref sig .tc .vmem S1024x2048 .i8) (harg5 : arg5.IsWhole) (arg6 : Memref sig .tc .vmem S1x1x1024 .f32) (harg6 : arg6.IsWhole) (arg7 : Memref sig .tc .vmem S1x1x1024 .i32) (harg7 : arg7.IsWhole) (arg8 : Memref sig .tc .vmem S1024x2048 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole)
    (x0 : Vec F S1024x2048 .bf16) (x1 : Vec F S1024x2048 .bf16) (x2 : Vec F S8x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_add_rmsnorm_quant i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_add_rmsnorm_quant_eq_skeleton]; unfold cc0_add_rmsnorm_quant_skel
    simp only [k0_part37_eq_skeleton, k0_part38_eq_skeleton, k0_part39_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

/-- The output windows, of whose contents nothing is said. -/
def forgets0 : Fin 7 → Bool := fun w => w.val == 3 || w.val == 4 || w.val == 5 || w.val == 6

/-- The proof data of the pipeline on core `c`: after the body each input's buffer holds its block; the outputs' contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the contents at the pipeline's start. -/
theorem A_eq (c : Dev nD) (w : Fin cfg0.W) : (dats m 0 c).A w = V m c (Pipeline.arrRef spec0 w) := by
  dsimp only [dats]

/-- What the body leaves in the input windows. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1200000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the program, with every semaphore counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the program: the inputs' arrays end unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  args_of m ρ (fun c => (dats m 0 c).toRForget forgets0) (A_eq m) (run_main m ρ)

/-- The program terminates with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Frame
-- ==== Proof.Spec.lean ====
/-
  What one grid point of the idealized kernel leaves in its buffers, as plain functions over the extended reals.

  A grid point handles 1024 rows of 2048 columns. `X` and `R` are its blocks of the two addends, `G` the eight
  equal copies of the weight row.
-/
module

public import proofs.«01_k».proof.Proof.Gen.KernelIdeal.Skeleton
public import Idealize.ShloMosaic.Lib.Pointwise

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- Column `128 c + l` of a row, for column tile `c` and lane `l`. -/
def col (c : ℕ) (l : Fin 128) : Fin 2048 := ⟨(128 * c + l.val) % 2048, Nat.mod_lt _ (by decide)⟩

/-- The sum of the two addends. -/
def nrB (X R : FVec Ideal S1024x2048 .bf16) : FVec Ideal S1024x2048 .bf16 := fun y => (X y : EReal) + R y

/-- The sum times the weight of its column: the value before the row's factor is applied. -/
def tB (X R : FVec Ideal S1024x2048 .bf16) (G : FVec Ideal S8x2048 .f32) : FVec Ideal S1024x2048 .f32 := fun y =>
  ((X y : EReal) + R y) * G (ix2 ⟨(y 0).val % 8, Nat.mod_lt _ (by decide)⟩ (y 1))

/-- `f` applied along `g 0, …, g n`, from the left. -/
def chain (f : EReal → EReal → EReal) (g : ℕ → EReal) : ℕ → EReal
  | 0 => g 0
  | n + 1 => f (chain f g n) (g (n + 1))

/-- Per row and lane, the minimum over the sixteen column tiles. -/
def mnB (T : FVec Ideal S1024x2048 .f32) : FVec Ideal S1024x128 .f32 := fun y =>
  chain min (fun c => T (ix2 (y 0) (col c (y 1)))) 15

/-- Per row and lane, the maximum over the sixteen column tiles. -/
def mxB (T : FVec Ideal S1024x2048 .f32) : FVec Ideal S1024x128 .f32 := fun y =>
  chain max (fun c => T (ix2 (y 0) (col c (y 1)))) 15

/-- Per row and lane, the sum of squares over the sixteen column tiles. -/
def ssB (N : FVec Ideal S1024x2048 .bf16) : FVec Ideal S1024x128 .f32 := fun y =>
  chain (· + ·) (fun c => N (ix2 (y 0) (col c (y 1))) * N (ix2 (y 0) (col c (y 1)))) 15

/-- The row's factor, from its sum of squares. -/
def rsS (ss : EReal) : EReal := Ideal.rsqrt (ss * Ideal.ofBits .f32 0x3A000000#32 + Ideal.ofBits .f32 0x358637BD#32)

/-- The row's scale, from its least and greatest value before the factor and its sum of squares. -/
def scS (mn mx ss : EReal) : EReal :=
  if mx * rsS ss = mn * rsS ss then 1
  else (mx * rsS ss - mn * rsS ss) * Named.named (F := Ideal) (φ := .f32) κ "inv_levels" 0x3B808081#32

/-- The row's zero point. -/
def zpS (mn mx ss : EReal) : EReal :=
  min (Ideal.ofBits .f32 0x42FE0000#32) (max (Ideal.ofBits .f32 0xC3000000#32)
    (Ideal.liftRound Ideal.roundHalfEven (Ideal.ofBits .f32 0xC3000000#32 - Ideal.div (mn * rsS ss) (scS mn mx ss))))

/-- The row's multiplier: its factor over its scale. -/
def mS (mn mx ss : EReal) : EReal := Ideal.div (rsS ss) (scS mn mx ss)

/-- The minimum of a row's 128 lanes. -/
def rowMin (A : FVec Ideal S1024x128 .f32) (r : Fin 1024) : EReal :=
  Finset.fold min (Ideal.ofBits .f32 0x7F800000#32) (fun l : Fin 128 => (A (ix2 r l) : EReal)) Finset.univ

/-- The maximum of a row's 128 lanes. -/
def rowMax (A : FVec Ideal S1024x128 .f32) (r : Fin 1024) : EReal :=
  Finset.fold max (Ideal.ofBits .f32 0xFF800000#32) (fun l : Fin 128 => (A (ix2 r l) : EReal)) Finset.univ

/-- The sum of a row's 128 lanes. -/
def rowSum (A : FVec Ideal S1024x128 .f32) (r : Fin 1024) : EReal := ∑ l : Fin 128, (A (ix2 r l) : EReal)

/-- The row's multiplier on every lane. -/
def mB (MN MX SS : FVec Ideal S1024x128 .f32) : FVec Ideal S1024x128 .f32 := fun y =>
  mS (rowMin MN (y 0)) (rowMax MX (y 0)) (rowSum SS (y 0))

/-- The row's zero point on every lane. -/
def zB (MN MX SS : FVec Ideal S1024x128 .f32) : FVec Ideal S1024x128 .f32 := fun y =>
  zpS (rowMin MN (y 0)) (rowMax MX (y 0)) (rowSum SS (y 0))

/-- The row's scale on lanes 0 to 63, its zero point on lanes 64 to 127. -/
def stB (MN MX SS : FVec Ideal S1024x128 .f32) : FVec Ideal S1024x128 .f32 := fun y =>
  Scalar.select (Scalar.cmpi .slt (BitVec.ofNat 32 (y 1).val) 64#32)
    (scS (rowMin MN (y 0)) (rowMax MX (y 0)) (rowSum SS (y 0)))
    (zpS (rowMin MN (y 0)) (rowMax MX (y 0)) (rowSum SS (y 0)))

/-- One code: the scaled value rounded to nearest even, moved by the zero point, clipped to the int8 range. -/
def code1 (t m z : EReal) : BitVec 8 :=
  (FloatOps.fptosi (F := Ideal) (φ := .f32) 32 (min (Ideal.ofBits .f32 0x42FE0000#32)
    (max (Ideal.ofBits .f32 0xC3000000#32) (Ideal.liftRound Ideal.roundHalfEven (t * m) + z)))).setWidth 8

/-- The codes, from the values before the factor, the multipliers and the zero points. -/
def codesB (T : FVec Ideal S1024x2048 .f32) (M Z : FVec Ideal S1024x128 .f32) : IVec S1024x2048 8 := fun y =>
  code1 (T y) (M (ix2 (y 0) ⟨(y 1).val % 128, Nat.mod_lt _ (by decide)⟩))
    (Z (ix2 (y 0) ⟨(y 1).val % 128, Nat.mod_lt _ (by decide)⟩))

end Cert.KernelIdeal.Value
-- ==== Proof.Tiles.lean ====
/-
  Buffers filled tile by tile in a counted loop: what a covering set of agreeing stores leaves.
-/
module

public import proofs.«01_k».proof.Proof.Gen.KernelIdeal.Loops

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {Val : EltTy → Type} {e : EltTy} {A B : ℕ}

/-- A closed form of an offset over its four unrolled copies, read at each of them. -/
theorem quad {f : BitVec 32 → Fin 2 → ℕ} {a c : ℕ} (h : ∀ r : Fin 4, f (BitVec.ofNat 32 (8 * r.val)) = ![a + 8 * r.val, c]) :
    f 0#32 = ![a, c] ∧ f 8#32 = ![a + 8, c] ∧ f 16#32 = ![a + 16, c] ∧ f 24#32 = ![a + 24, c] :=
  ⟨h 0, h 1, h 2, h 3⟩

/-- Tiles of height `h` and width `w`, `J` to a row of tiles, listed last first, cover the rows they span. -/
theorem cover_tiles (L : List (View.Piece Val ⟨2, ![A, B]⟩ e)) (a h w J n : ℕ) (hh : 0 < h) (hw : 0 < w) (hJ : 0 < J)
    (hsz : ∀ p ∈ L, (∀ b, p.1.size b = ![h, w] b) ∧ ∀ b, p.1.stride b = 1)
    (hoff : L.map (fun p => p.1.off) = (List.range (n * J)).reverse.map fun j => ![a + h * (j / J), w * (j % J)])
    (y : Shape.Idx ⟨2, ![A, B]⟩) (h0 : a ≤ (y 0).val) (h1 : (y 0).val < a + h * n) (h2 : (y 1).val < w * J) :
    ∃ p ∈ L, y ∈ p.1.set := by
  obtain ⟨u, hu⟩ : ∃ u, u = ((y 0).val - a) / h := ⟨_, rfl⟩
  obtain ⟨v, hv⟩ : ∃ v, v = (y 1).val / w := ⟨_, rfl⟩
  have hun : u < n := by rw [hu]; exact Nat.div_lt_of_lt_mul (by omega)
  have hvJ : v < J := by rw [hv]; exact Nat.div_lt_of_lt_mul h2
  have hu1 := Nat.div_add_mod ((y 0).val - a) h
  have hu2 := Nat.mod_lt ((y 0).val - a) hh
  have hv1 := Nat.div_add_mod (y 1).val w
  have hv2 := Nat.mod_lt (y 1).val hw
  rw [← hu] at hu1; rw [← hv] at hv1
  have hd : (J * u + v) / J = u := by rw [Nat.mul_add_div hJ, Nat.div_eq_of_lt hvJ, Nat.add_zero]
  have hm : (J * u + v) % J = v := by rw [Nat.mul_add_mod, Nat.mod_eq_of_lt hvJ]
  have hlt : J * u + v < n * J := by
    have := Nat.mul_le_mul_left J (Nat.succ_le_of_lt hun)
    rw [Nat.mul_succ, Nat.mul_comm J n] at this; omega
  have hmem : ![a + h * u, w * v] ∈ L.map (fun p => p.1.off) := by
    rw [hoff]
    exact List.mem_map.mpr ⟨J * u + v, List.mem_reverse.mpr (List.mem_range.mpr hlt), by rw [hd, hm]⟩
  obtain ⟨p, hp, ho⟩ := List.mem_map.mp hmem
  refine ⟨p, hp, p.1.mem_set.mpr fun b => ?_⟩
  obtain ⟨hs, ht⟩ := hsz p hp
  have ho' : ∀ b, p.1.off b = ![a + h * u, w * v] b := fun b => congrFun ho b
  rw [hs, ht, ho']
  match b with
  | 0 => exact ⟨((y 0).val - a) % h, hu2, by show (y 0).val = a + h * u + 1 * _; omega⟩
  | 1 => exact ⟨(y 1).val % w, hv2, by show (y 1).val = w * v + 1 * _; omega⟩

/-- A buffer filled by the trips of a loop, trip `k` storing pieces of one function `G` that cover rows `h k` to
    `h k + h - 1`, reads `G` at the end. -/
theorem read_loop {sig : RefSig} {κ : Kind} {sp : Space} (v : View sig κ sp ⟨2, ![A, B]⟩ e) (f : v.ty.Contents Val)
    (N h : ℕ) (P : ℕ → List (View.Piece Val ⟨2, ![A, B]⟩ e)) (Q : Fin N → List (View.Piece Val ⟨2, ![A, B]⟩ e))
    (G : Shape.Idx ⟨2, ![A, B]⟩ → Val e) (hh : 0 < h) (hA : A = h * N)
    (h0 : P 0 = []) (hs : ∀ k : Fin N, P (k.val + 1) = Q k ++ P k.val)
    (hp : ∀ k, ∀ p ∈ Q k, ∀ x : p.1.shape.Idx, p.2 x = G (p.1.emb x))
    (hc : ∀ k : Fin N, ∀ y : Shape.Idx ⟨2, ![A, B]⟩, h * k.val ≤ (y 0).val → (y 0).val < h * k.val + h → ∃ p ∈ Q k, y ∈ p.1.set) :
    v.read Val (v.writes Val f (P N)) = G := by
  have key : ∀ n, n ≤ N → (∀ p ∈ P n, ∀ x : p.1.shape.Idx, p.2 x = G (p.1.emb x))
      ∧ ∀ y : Shape.Idx ⟨2, ![A, B]⟩, (y 0).val < h * n → ∃ p ∈ P n, y ∈ p.1.set := by
    intro n
    induction n with
    | zero => intro _; rw [h0]; exact ⟨fun p hp => absurd hp List.not_mem_nil, fun y hy => absurd hy (by omega)⟩
    | succ n ih =>
      intro hn
      obtain ⟨i1, i2⟩ := ih (by omega)
      have e := hs ⟨n, by omega⟩
      simp only at e
      rw [e]
      refine ⟨fun p hm => ?_, fun y hy => ?_⟩
      · rcases List.mem_append.mp hm with hm | hm
        · exact hp _ p hm
        · exact i1 p hm
      · by_cases hlt : (y 0).val < h * n
        · obtain ⟨p, hm, hy'⟩ := i2 y hlt
          exact ⟨p, List.mem_append.mpr (.inr hm), hy'⟩
        · obtain ⟨p, hm, hy'⟩ := hc ⟨n, by omega⟩ y (by simpa using hlt) (by rw [Nat.mul_succ] at hy; simpa using hy)
          exact ⟨p, List.mem_append.mpr (.inl hm), hy'⟩
  obtain ⟨k1, k2⟩ := key N le_rfl
  funext y
  refine View.read_writes_apply_of_pieces v f G (P N) k1 y (k2 y ?_)
  rw [← hA]; exact (y 0).isLt

end Cert.KernelIdeal.Value
-- ==== Proof.Trip1N.lean ====
/-
  One trip of the first loop: its stores of the sums.
-/
module

public import proofs.«01_k».proof.Proof.Gen.KernelIdeal.Loops
public import proofs.«01_k».proof.Proof.Spec
public import proofs.«01_k».proof.Proof.Tiles
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

set_option maxHeartbeats 16000000 in
/-- Every store of the sum in one trip stores the sum. -/
theorem pieces1_nr (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty)
    (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).1, ∀ x : p.1.shape.Idx,
      p.2 x = nrB (arg1.view.read (Elt Ideal) X1) (arg2.view.read (Elt Ideal) X2) (p.1.emb x) := by
  unfold trip_k0_t1
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
  all_goals
    intro x
    sl_unfold_run_names
    unfold_payloads
    idx_vars x
    pointwise [View.readAt_eq_ld, nrB]
    blk_point [quad (k0_off1_eq k), quad (k0_off2_eq k), quad (k0_off3_eq k), quad (k0_off4_eq k), quad (k0_off5_eq k), quad (k0_off6_eq k), quad (k0_off7_eq k), quad (k0_off8_eq k), quad (k0_off9_eq k), quad (k0_off10_eq k), quad (k0_off11_eq k), quad (k0_off12_eq k), quad (k0_off13_eq k), quad (k0_off14_eq k), quad (k0_off15_eq k), quad (k0_off16_eq k), quad (k0_off17_eq k), quad (k0_off18_eq k), quad (k0_off19_eq k), quad (k0_off20_eq k), quad (k0_off21_eq k), quad (k0_off22_eq k), quad (k0_off23_eq k), quad (k0_off24_eq k), quad (k0_off25_eq k)]

end Cert.KernelIdeal.Value
-- ==== Proof.Trip1T.lean ====
/-
  One trip of the first loop: its stores of the weighted sums.
-/
module

public import proofs.«01_k».proof.Proof.Gen.KernelIdeal.Loops
public import proofs.«01_k».proof.Proof.Spec
public import proofs.«01_k».proof.Proof.Tiles
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

set_option maxHeartbeats 16000000 in
/-- Every store of the weighted sum in one trip stores the weighted sum. -/
theorem pieces1_t (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty)
    (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.1, ∀ x : p.1.shape.Idx,
      p.2 x = tB (arg1.view.read (Elt Ideal) X1) (arg2.view.read (Elt Ideal) X2) (arg3.view.read (Elt Ideal) X3) (p.1.emb x) := by
  unfold trip_k0_t1
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
  all_goals
    intro x
    sl_unfold_run_names
    unfold_payloads
    idx_vars x
    pointwise [View.readAt_eq_ld, tB]
    blk_point [quad (k0_off1_eq k), quad (k0_off2_eq k), quad (k0_off3_eq k), quad (k0_off4_eq k), quad (k0_off5_eq k), quad (k0_off6_eq k), quad (k0_off7_eq k), quad (k0_off8_eq k), quad (k0_off9_eq k), quad (k0_off10_eq k), quad (k0_off11_eq k), quad (k0_off12_eq k), quad (k0_off13_eq k), quad (k0_off14_eq k), quad (k0_off15_eq k), quad (k0_off16_eq k), quad (k0_off17_eq k), quad (k0_off18_eq k), quad (k0_off19_eq k), quad (k0_off20_eq k), quad (k0_off21_eq k), quad (k0_off22_eq k), quad (k0_off23_eq k), quad (k0_off24_eq k), quad (k0_off25_eq k)]

end Cert.KernelIdeal.Value
-- ==== Proof.Trip1Mn.lean ====
/-
  One trip of the first loop: its stores of the lanewise minima.
-/
module

public import proofs.«01_k».proof.Proof.Gen.KernelIdeal.Loops
public import proofs.«01_k».proof.Proof.Spec
public import proofs.«01_k».proof.Proof.Tiles
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

set_option maxHeartbeats 16000000 in
/-- Every store of lanewise minima in one trip stores them. -/
theorem pieces1_mn (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty)
    (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.2.1, ∀ x : p.1.shape.Idx,
      p.2 x = mnB (tB (arg1.view.read (Elt Ideal) X1) (arg2.view.read (Elt Ideal) X2) (arg3.view.read (Elt Ideal) X3)) (p.1.emb x) := by
  unfold trip_k0_t1
  dsimp only
  simp only [List.forall_mem_cons]
  refine ⟨?_, ?_, ?_, ?_, fun p hp => absurd hp List.not_mem_nil⟩
  all_goals
    intro x
    sl_unfold_run_names
    unfold_payloads
    idx_vars x
    pointwise [View.readAt_eq_ld, tB, mnB, chain, col]
    blk_point [quad (k0_off1_eq k), quad (k0_off2_eq k), quad (k0_off3_eq k), quad (k0_off4_eq k), quad (k0_off5_eq k), quad (k0_off6_eq k), quad (k0_off7_eq k), quad (k0_off8_eq k), quad (k0_off9_eq k), quad (k0_off10_eq k), quad (k0_off11_eq k), quad (k0_off12_eq k), quad (k0_off13_eq k), quad (k0_off14_eq k), quad (k0_off15_eq k), quad (k0_off16_eq k), quad (k0_off17_eq k), quad (k0_off18_eq k), quad (k0_off19_eq k), quad (k0_off20_eq k), quad (k0_off21_eq k), quad (k0_off22_eq k), quad (k0_off23_eq k), quad (k0_off24_eq k), quad (k0_off25_eq k)]

end Cert.KernelIdeal.Value
-- ==== Proof.Trip1Mx.lean ====
/-
  One trip of the first loop: its stores of the lanewise maxima.
-/
module

public import proofs.«01_k».proof.Proof.Gen.KernelIdeal.Loops
public import proofs.«01_k».proof.Proof.Spec
public import proofs.«01_k».proof.Proof.Tiles
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

set_option maxHeartbeats 16000000 in
/-- Every store of lanewise maxima in one trip stores them. -/
theorem pieces1_mx (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty)
    (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.2.2.1, ∀ x : p.1.shape.Idx,
      p.2 x = mxB (tB (arg1.view.read (Elt Ideal) X1) (arg2.view.read (Elt Ideal) X2) (arg3.view.read (Elt Ideal) X3)) (p.1.emb x) := by
  unfold trip_k0_t1
  dsimp only
  simp only [List.forall_mem_cons]
  refine ⟨?_, ?_, ?_, ?_, fun p hp => absurd hp List.not_mem_nil⟩
  all_goals
    intro x
    sl_unfold_run_names
    unfold_payloads
    idx_vars x
    pointwise [View.readAt_eq_ld, tB, mxB, chain, col]
    blk_point [quad (k0_off1_eq k), quad (k0_off2_eq k), quad (k0_off3_eq k), quad (k0_off4_eq k), quad (k0_off5_eq k), quad (k0_off6_eq k), quad (k0_off7_eq k), quad (k0_off8_eq k), quad (k0_off9_eq k), quad (k0_off10_eq k), quad (k0_off11_eq k), quad (k0_off12_eq k), quad (k0_off13_eq k), quad (k0_off14_eq k), quad (k0_off15_eq k), quad (k0_off16_eq k), quad (k0_off17_eq k), quad (k0_off18_eq k), quad (k0_off19_eq k), quad (k0_off20_eq k), quad (k0_off21_eq k), quad (k0_off22_eq k), quad (k0_off23_eq k), quad (k0_off24_eq k), quad (k0_off25_eq k)]

end Cert.KernelIdeal.Value
-- ==== Proof.Trip1Ss.lean ====
/-
  One trip of the first loop: its stores of the lanewise sums of squares.
-/
module

public import proofs.«01_k».proof.Proof.Gen.KernelIdeal.Loops
public import proofs.«01_k».proof.Proof.Spec
public import proofs.«01_k».proof.Proof.Tiles
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

set_option maxHeartbeats 16000000 in
/-- Every store of lanewise sums of squares in one trip stores them. -/
theorem pieces1_ss (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty)
    (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.2.2.2.1, ∀ x : p.1.shape.Idx,
      p.2 x = ssB (nrB (arg1.view.read (Elt Ideal) X1) (arg2.view.read (Elt Ideal) X2)) (p.1.emb x) := by
  unfold trip_k0_t1
  dsimp only
  simp only [List.forall_mem_cons]
  refine ⟨?_, ?_, ?_, ?_, fun p hp => absurd hp List.not_mem_nil⟩
  all_goals
    intro x
    sl_unfold_run_names
    unfold_payloads
    idx_vars x
    pointwise [View.readAt_eq_ld, nrB, ssB, chain, col]
    blk_point [quad (k0_off1_eq k), quad (k0_off2_eq k), quad (k0_off3_eq k), quad (k0_off4_eq k), quad (k0_off5_eq k), quad (k0_off6_eq k), quad (k0_off7_eq k), quad (k0_off8_eq k), quad (k0_off9_eq k), quad (k0_off10_eq k), quad (k0_off11_eq k), quad (k0_off12_eq k), quad (k0_off13_eq k), quad (k0_off14_eq k), quad (k0_off15_eq k), quad (k0_off16_eq k), quad (k0_off17_eq k), quad (k0_off18_eq k), quad (k0_off19_eq k), quad (k0_off20_eq k), quad (k0_off21_eq k), quad (k0_off22_eq k), quad (k0_off23_eq k), quad (k0_off24_eq k), quad (k0_off25_eq k)]

end Cert.KernelIdeal.Value
-- ==== Proof.Loop1.lean ====
/-
  The buffers after loop 1 of a grid point, read whole.
-/
module

public import proofs.«01_k».proof.Proof.Trip1N
public import proofs.«01_k».proof.Proof.Trip1T
public import proofs.«01_k».proof.Proof.Trip1Mn
public import proofs.«01_k».proof.Proof.Trip1Mx
public import proofs.«01_k».proof.Proof.Trip1Ss

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

set_option maxHeartbeats 4000000 in
/-- The stores of one trip into this buffer cover the trip's 32 rows. -/
theorem nr_read_cover (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty)
    (k : Fin k0_t1_loop.trips) (y : Shape.Idx ⟨2, ![1024, 2048]⟩) (h0 : 32 * k.val ≤ (y 0).val) (h1 : (y 0).val < 32 * k.val + 32) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).1, y ∈ p.1.set := by
  refine cover_tiles _ (32 * k.val) 8 256 8 4 (by decide) (by decide) (by decide) ?_ ?_ y h0 h1 (y 1).isLt
  · unfold trip_k0_t1
    dsimp only
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
    all_goals exact ⟨fun _ => rfl, fun _ => rfl⟩
  · unfold trip_k0_t1
    dsimp only
    simp only [List.map_cons, List.map_nil, Rect.off_unit, quad (k0_off1_eq k), quad (k0_off2_eq k), quad (k0_off3_eq k), quad (k0_off4_eq k), quad (k0_off5_eq k), quad (k0_off6_eq k), quad (k0_off7_eq k), quad (k0_off8_eq k), quad (k0_off9_eq k), quad (k0_off10_eq k), quad (k0_off11_eq k), quad (k0_off12_eq k), quad (k0_off13_eq k), quad (k0_off14_eq k), quad (k0_off15_eq k), quad (k0_off16_eq k), quad (k0_off17_eq k), quad (k0_off18_eq k), quad (k0_off19_eq k), quad (k0_off20_eq k), quad (k0_off21_eq k), quad (k0_off22_eq k), quad (k0_off23_eq k), quad (k0_off24_eq k), quad (k0_off25_eq k)]
    rfl

/-- After the first loop the result buffer of sums holds the sums. -/
theorem nr_read (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty) (f : arg4.view.ty.Contents (Elt Ideal)) :
    arg4.view.read (Elt Ideal) (arg4.view.writes (Elt Ideal) f
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k0_t1_loop.trips).1)
      = nrB (arg1.view.read (Elt Ideal) X1) (arg2.view.read (Elt Ideal) X2) :=
  read_loop arg4.view f k0_t1_loop.trips 32
    (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).1) _ _ (by decide) (by decide) rfl
    (fun k => by simp only; rw [pb_k0_t1_succ])
    (pieces1_nr 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3)
    (nr_read_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3)

set_option maxHeartbeats 4000000 in
/-- The stores of one trip into this buffer cover the trip's 32 rows. -/
theorem t_read_cover (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty)
    (k : Fin k0_t1_loop.trips) (y : Shape.Idx ⟨2, ![1024, 2048]⟩) (h0 : 32 * k.val ≤ (y 0).val) (h1 : (y 0).val < 32 * k.val + 32) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.1, y ∈ p.1.set := by
  refine cover_tiles _ (32 * k.val) 8 128 16 4 (by decide) (by decide) (by decide) ?_ ?_ y h0 h1 (y 1).isLt
  · unfold trip_k0_t1
    dsimp only
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
    all_goals exact ⟨fun _ => rfl, fun _ => rfl⟩
  · unfold trip_k0_t1
    dsimp only
    simp only [List.map_cons, List.map_nil, Rect.off_unit, quad (k0_off1_eq k), quad (k0_off2_eq k), quad (k0_off3_eq k), quad (k0_off4_eq k), quad (k0_off5_eq k), quad (k0_off6_eq k), quad (k0_off7_eq k), quad (k0_off8_eq k), quad (k0_off9_eq k), quad (k0_off10_eq k), quad (k0_off11_eq k), quad (k0_off12_eq k), quad (k0_off13_eq k), quad (k0_off14_eq k), quad (k0_off15_eq k), quad (k0_off16_eq k), quad (k0_off17_eq k), quad (k0_off18_eq k), quad (k0_off19_eq k), quad (k0_off20_eq k), quad (k0_off21_eq k), quad (k0_off22_eq k), quad (k0_off23_eq k), quad (k0_off24_eq k), quad (k0_off25_eq k)]
    rfl

/-- After the first loop the scratch of weighted sums holds them. -/
theorem t_read (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty) (f : arg8.view.ty.Contents (Elt Ideal)) :
    arg8.view.read (Elt Ideal) (arg8.view.writes (Elt Ideal) f
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k0_t1_loop.trips).2.1)
      = tB (arg1.view.read (Elt Ideal) X1) (arg2.view.read (Elt Ideal) X2) (arg3.view.read (Elt Ideal) X3) :=
  read_loop arg8.view f k0_t1_loop.trips 32
    (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.1) _ _ (by decide) (by decide) rfl
    (fun k => by simp only; rw [pb_k0_t1_succ])
    (pieces1_t 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3)
    (t_read_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3)

set_option maxHeartbeats 4000000 in
/-- The stores of one trip into this buffer cover the trip's 32 rows. -/
theorem mn_read_cover (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty)
    (k : Fin k0_t1_loop.trips) (y : Shape.Idx ⟨2, ![1024, 128]⟩) (h0 : 32 * k.val ≤ (y 0).val) (h1 : (y 0).val < 32 * k.val + 32) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.2.1, y ∈ p.1.set := by
  refine cover_tiles _ (32 * k.val) 8 128 1 4 (by decide) (by decide) (by decide) ?_ ?_ y h0 h1 (y 1).isLt
  · unfold trip_k0_t1
    dsimp only
    simp only [List.forall_mem_cons]
    refine ⟨?_, ?_, ?_, ?_, fun p hp => absurd hp List.not_mem_nil⟩
    all_goals exact ⟨fun _ => rfl, fun _ => rfl⟩
  · unfold trip_k0_t1
    dsimp only
    simp only [List.map_cons, List.map_nil, Rect.off_unit, quad (k0_off1_eq k), quad (k0_off2_eq k), quad (k0_off3_eq k), quad (k0_off4_eq k), quad (k0_off5_eq k), quad (k0_off6_eq k), quad (k0_off7_eq k), quad (k0_off8_eq k), quad (k0_off9_eq k), quad (k0_off10_eq k), quad (k0_off11_eq k), quad (k0_off12_eq k), quad (k0_off13_eq k), quad (k0_off14_eq k), quad (k0_off15_eq k), quad (k0_off16_eq k), quad (k0_off17_eq k), quad (k0_off18_eq k), quad (k0_off19_eq k), quad (k0_off20_eq k), quad (k0_off21_eq k), quad (k0_off22_eq k), quad (k0_off23_eq k), quad (k0_off24_eq k), quad (k0_off25_eq k)]
    rfl

/-- After the first loop the scratch of lanewise minima holds them. -/
theorem mn_read (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty) (f : arg9.view.ty.Contents (Elt Ideal)) :
    arg9.view.read (Elt Ideal) (arg9.view.writes (Elt Ideal) f
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k0_t1_loop.trips).2.2.1)
      = mnB (tB (arg1.view.read (Elt Ideal) X1) (arg2.view.read (Elt Ideal) X2) (arg3.view.read (Elt Ideal) X3)) :=
  read_loop arg9.view f k0_t1_loop.trips 32
    (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.2.1) _ _ (by decide) (by decide) rfl
    (fun k => by simp only; rw [pb_k0_t1_succ])
    (pieces1_mn 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3)
    (mn_read_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3)

set_option maxHeartbeats 4000000 in
/-- The stores of one trip into this buffer cover the trip's 32 rows. -/
theorem mx_read_cover (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty)
    (k : Fin k0_t1_loop.trips) (y : Shape.Idx ⟨2, ![1024, 128]⟩) (h0 : 32 * k.val ≤ (y 0).val) (h1 : (y 0).val < 32 * k.val + 32) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.2.2.1, y ∈ p.1.set := by
  refine cover_tiles _ (32 * k.val) 8 128 1 4 (by decide) (by decide) (by decide) ?_ ?_ y h0 h1 (y 1).isLt
  · unfold trip_k0_t1
    dsimp only
    simp only [List.forall_mem_cons]
    refine ⟨?_, ?_, ?_, ?_, fun p hp => absurd hp List.not_mem_nil⟩
    all_goals exact ⟨fun _ => rfl, fun _ => rfl⟩
  · unfold trip_k0_t1
    dsimp only
    simp only [List.map_cons, List.map_nil, Rect.off_unit, quad (k0_off1_eq k), quad (k0_off2_eq k), quad (k0_off3_eq k), quad (k0_off4_eq k), quad (k0_off5_eq k), quad (k0_off6_eq k), quad (k0_off7_eq k), quad (k0_off8_eq k), quad (k0_off9_eq k), quad (k0_off10_eq k), quad (k0_off11_eq k), quad (k0_off12_eq k), quad (k0_off13_eq k), quad (k0_off14_eq k), quad (k0_off15_eq k), quad (k0_off16_eq k), quad (k0_off17_eq k), quad (k0_off18_eq k), quad (k0_off19_eq k), quad (k0_off20_eq k), quad (k0_off21_eq k), quad (k0_off22_eq k), quad (k0_off23_eq k), quad (k0_off24_eq k), quad (k0_off25_eq k)]
    rfl

/-- After the first loop the scratch of lanewise maxima holds them. -/
theorem mx_read (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty) (f : arg10.view.ty.Contents (Elt Ideal)) :
    arg10.view.read (Elt Ideal) (arg10.view.writes (Elt Ideal) f
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k0_t1_loop.trips).2.2.2.1)
      = mxB (tB (arg1.view.read (Elt Ideal) X1) (arg2.view.read (Elt Ideal) X2) (arg3.view.read (Elt Ideal) X3)) :=
  read_loop arg10.view f k0_t1_loop.trips 32
    (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.2.2.1) _ _ (by decide) (by decide) rfl
    (fun k => by simp only; rw [pb_k0_t1_succ])
    (pieces1_mx 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3)
    (mx_read_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3)

set_option maxHeartbeats 4000000 in
/-- The stores of one trip into this buffer cover the trip's 32 rows. -/
theorem ss_read_cover (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty)
    (k : Fin k0_t1_loop.trips) (y : Shape.Idx ⟨2, ![1024, 128]⟩) (h0 : 32 * k.val ≤ (y 0).val) (h1 : (y 0).val < 32 * k.val + 32) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.2.2.2.1, y ∈ p.1.set := by
  refine cover_tiles _ (32 * k.val) 8 128 1 4 (by decide) (by decide) (by decide) ?_ ?_ y h0 h1 (y 1).isLt
  · unfold trip_k0_t1
    dsimp only
    simp only [List.forall_mem_cons]
    refine ⟨?_, ?_, ?_, ?_, fun p hp => absurd hp List.not_mem_nil⟩
    all_goals exact ⟨fun _ => rfl, fun _ => rfl⟩
  · unfold trip_k0_t1
    dsimp only
    simp only [List.map_cons, List.map_nil, Rect.off_unit, quad (k0_off1_eq k), quad (k0_off2_eq k), quad (k0_off3_eq k), quad (k0_off4_eq k), quad (k0_off5_eq k), quad (k0_off6_eq k), quad (k0_off7_eq k), quad (k0_off8_eq k), quad (k0_off9_eq k), quad (k0_off10_eq k), quad (k0_off11_eq k), quad (k0_off12_eq k), quad (k0_off13_eq k), quad (k0_off14_eq k), quad (k0_off15_eq k), quad (k0_off16_eq k), quad (k0_off17_eq k), quad (k0_off18_eq k), quad (k0_off19_eq k), quad (k0_off20_eq k), quad (k0_off21_eq k), quad (k0_off22_eq k), quad (k0_off23_eq k), quad (k0_off24_eq k), quad (k0_off25_eq k)]
    rfl

/-- After the first loop the scratch of lanewise sums of squares holds them. -/
theorem ss_read (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X1 : BufTy.Contents (Elt Ideal) arg1.view.ty)
  (X2 : BufTy.Contents (Elt Ideal) arg2.view.ty)
  (X3 : BufTy.Contents (Elt Ideal) arg3.view.ty) (f : arg11.view.ty.Contents (Elt Ideal)) :
    arg11.view.read (Elt Ideal) (arg11.view.writes (Elt Ideal) f
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k0_t1_loop.trips).2.2.2.2)
      = ssB (nrB (arg1.view.read (Elt Ideal) X1) (arg2.view.read (Elt Ideal) X2)) :=
  read_loop arg11.view f k0_t1_loop.trips 32
    (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 k).2.2.2.2) _ _ (by decide) (by decide) rfl
    (fun k => by simp only; rw [pb_k0_t1_succ])
    (pieces1_ss 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3)
    (ss_read_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3)

end Cert.KernelIdeal.Value
-- ==== Proof.Trip2.lean ====
/-
  One trip of the second loop: its stores of multipliers, zero points, and scales beside zero points.
-/
module

public import proofs.«01_k».proof.Proof.Gen.KernelIdeal.Loops
public import proofs.«01_k».proof.Proof.Spec
public import proofs.«01_k».proof.Proof.Tiles
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- A lane of a row read through a tile of eight rows and all lanes. -/
theorem lane_ix {off : Fin 2 → ℕ} {a : ℕ} (h : off = ![a, 0]) (x0 : Fin 8) (l : Fin 128) (p : off 0 + x0.val < 1024)
    (q : off 1 + l.val < 128) :
    (ix2 ⟨off 0 + x0.val, p⟩ ⟨off 1 + l.val, q⟩ : S1024x128.Idx) = ix2 ⟨a + x0.val, by rw [h] at p; exact p⟩ l := by
  subst h; simp

/-- The row at which such a tile places an index. -/
theorem row_ix {off : Fin 2 → ℕ} {a : ℕ} (h : off = ![a, 0]) (x0 : Fin 8) (x1 : Fin 128) (inb) (p : a + x0.val < 1024) :
    (Rect.unit (s := S1024x128) off ![8, 128] inb).emb (ix2 x0 x1) 0 = ⟨a + x0.val, p⟩ := by
  subst h
  exact Fin.ext (by blk_simp)

/-- The lane at which such a tile places an index. -/
theorem col_ix {off : Fin 2 → ℕ} {a : ℕ} (h : off = ![a, 0]) (x0 : Fin 8) (x1 : Fin 128) (inb) :
    ((Rect.unit (s := S1024x128) off ![8, 128] inb).emb (ix2 x0 x1) 1).val = x1.val := by
  subst h
  blk_simp

set_option maxHeartbeats 16000000 in
/-- Every store of multipliers in one trip stores them. -/
theorem pieces2_m (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (v0 : IVec S8x128 32) (hv0 : ∀ (a : Fin 8) (b : Fin 128), v0 (ix2 a b) = BitVec.ofNat 32 b.val)
  (X9 : BufTy.Contents (Elt Ideal) arg9.view.ty)
  (X10 : BufTy.Contents (Elt Ideal) arg10.view.ty)
  (X11 : BufTy.Contents (Elt Ideal) arg11.view.ty)
    (k : Fin k0_t2_loop.trips) :
    ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k).1, ∀ x : p.1.shape.Idx,
      p.2 x = mB (arg9.view.read (Elt Ideal) X9) (arg10.view.read (Elt Ideal) X10) (arg11.view.read (Elt Ideal) X11) (p.1.emb x) := by
  unfold trip_k0_t2
  dsimp only
  simp only [List.forall_mem_cons]
  refine ⟨?_, ?_, ?_, ?_, fun p hp => absurd hp List.not_mem_nil⟩
  all_goals
    intro x
    sl_unfold_run_names
    unfold_payloads
    idx_vars x
    have hk : k.val < 32 := Nat.lt_of_lt_of_le k.isLt k0_t2_abs.2.1
    obtain ⟨o0, o1, o2, o3⟩ := quad (k0_off26_eq k)
    pointwise [View.readAt_eq_ld, hv0]
    first
      | simp only [lane_ix o0]
        rw [mB, row_ix o0 x0 x1 _ (by omega)]; try rw [col_ix o0 x0 x1]
        rfl
      | simp only [lane_ix o1]
        rw [mB, row_ix o1 x0 x1 _ (by omega)]; try rw [col_ix o1 x0 x1]
        rfl
      | simp only [lane_ix o2]
        rw [mB, row_ix o2 x0 x1 _ (by omega)]; try rw [col_ix o2 x0 x1]
        rfl
      | simp only [lane_ix o3]
        rw [mB, row_ix o3 x0 x1 _ (by omega)]; try rw [col_ix o3 x0 x1]
        rfl

set_option maxHeartbeats 16000000 in
/-- Every store of zero points in one trip stores them. -/
theorem pieces2_z (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (v0 : IVec S8x128 32) (hv0 : ∀ (a : Fin 8) (b : Fin 128), v0 (ix2 a b) = BitVec.ofNat 32 b.val)
  (X9 : BufTy.Contents (Elt Ideal) arg9.view.ty)
  (X10 : BufTy.Contents (Elt Ideal) arg10.view.ty)
  (X11 : BufTy.Contents (Elt Ideal) arg11.view.ty)
    (k : Fin k0_t2_loop.trips) :
    ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k).2.1, ∀ x : p.1.shape.Idx,
      p.2 x = zB (arg9.view.read (Elt Ideal) X9) (arg10.view.read (Elt Ideal) X10) (arg11.view.read (Elt Ideal) X11) (p.1.emb x) := by
  unfold trip_k0_t2
  dsimp only
  simp only [List.forall_mem_cons]
  refine ⟨?_, ?_, ?_, ?_, fun p hp => absurd hp List.not_mem_nil⟩
  all_goals
    intro x
    sl_unfold_run_names
    unfold_payloads
    idx_vars x
    have hk : k.val < 32 := Nat.lt_of_lt_of_le k.isLt k0_t2_abs.2.1
    obtain ⟨o0, o1, o2, o3⟩ := quad (k0_off26_eq k)
    pointwise [View.readAt_eq_ld, hv0]
    first
      | simp only [lane_ix o0]
        rw [zB, row_ix o0 x0 x1 _ (by omega)]; try rw [col_ix o0 x0 x1]
        rfl
      | simp only [lane_ix o1]
        rw [zB, row_ix o1 x0 x1 _ (by omega)]; try rw [col_ix o1 x0 x1]
        rfl
      | simp only [lane_ix o2]
        rw [zB, row_ix o2 x0 x1 _ (by omega)]; try rw [col_ix o2 x0 x1]
        rfl
      | simp only [lane_ix o3]
        rw [zB, row_ix o3 x0 x1 _ (by omega)]; try rw [col_ix o3 x0 x1]
        rfl

set_option maxHeartbeats 16000000 in
/-- Every store of scales and zero points side by side in one trip stores them. -/
theorem pieces2_st (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (v0 : IVec S8x128 32) (hv0 : ∀ (a : Fin 8) (b : Fin 128), v0 (ix2 a b) = BitVec.ofNat 32 b.val)
  (X9 : BufTy.Contents (Elt Ideal) arg9.view.ty)
  (X10 : BufTy.Contents (Elt Ideal) arg10.view.ty)
  (X11 : BufTy.Contents (Elt Ideal) arg11.view.ty)
    (k : Fin k0_t2_loop.trips) :
    ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k).2.2.1, ∀ x : p.1.shape.Idx,
      p.2 x = stB (arg9.view.read (Elt Ideal) X9) (arg10.view.read (Elt Ideal) X10) (arg11.view.read (Elt Ideal) X11) (p.1.emb x) := by
  unfold trip_k0_t2
  dsimp only
  simp only [List.forall_mem_cons]
  refine ⟨?_, ?_, ?_, ?_, fun p hp => absurd hp List.not_mem_nil⟩
  all_goals
    intro x
    sl_unfold_run_names
    unfold_payloads
    idx_vars x
    have hk : k.val < 32 := Nat.lt_of_lt_of_le k.isLt k0_t2_abs.2.1
    obtain ⟨o0, o1, o2, o3⟩ := quad (k0_off26_eq k)
    pointwise [View.readAt_eq_ld, hv0]
    first
      | simp only [lane_ix o0]
        rw [stB, row_ix o0 x0 x1 _ (by omega)]; try rw [col_ix o0 x0 x1]
        rfl
      | simp only [lane_ix o1]
        rw [stB, row_ix o1 x0 x1 _ (by omega)]; try rw [col_ix o1 x0 x1]
        rfl
      | simp only [lane_ix o2]
        rw [stB, row_ix o2 x0 x1 _ (by omega)]; try rw [col_ix o2 x0 x1]
        rfl
      | simp only [lane_ix o3]
        rw [stB, row_ix o3 x0 x1 _ (by omega)]; try rw [col_ix o3 x0 x1]
        rfl

end Cert.KernelIdeal.Value
-- ==== Proof.Loop2.lean ====
/-
  The buffers after loop 2 of a grid point, read whole.
-/
module

public import proofs.«01_k».proof.Proof.Trip2

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

set_option maxHeartbeats 4000000 in
/-- The stores of one trip into this buffer cover the trip's 32 rows. -/
theorem m_read_cover (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (v0 : IVec S8x128 32) (hv0 : ∀ (a : Fin 8) (b : Fin 128), v0 (ix2 a b) = BitVec.ofNat 32 b.val)
  (X9 : BufTy.Contents (Elt Ideal) arg9.view.ty)
  (X10 : BufTy.Contents (Elt Ideal) arg10.view.ty)
  (X11 : BufTy.Contents (Elt Ideal) arg11.view.ty)
    (k : Fin k0_t2_loop.trips) (y : Shape.Idx ⟨2, ![1024, 128]⟩) (h0 : 32 * k.val ≤ (y 0).val) (h1 : (y 0).val < 32 * k.val + 32) :
    ∃ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k).1, y ∈ p.1.set := by
  refine cover_tiles _ (32 * k.val) 8 128 1 4 (by decide) (by decide) (by decide) ?_ ?_ y h0 h1 (y 1).isLt
  · unfold trip_k0_t2
    dsimp only
    simp only [List.forall_mem_cons]
    refine ⟨?_, ?_, ?_, ?_, fun p hp => absurd hp List.not_mem_nil⟩
    all_goals exact ⟨fun _ => rfl, fun _ => rfl⟩
  · unfold trip_k0_t2
    dsimp only
    simp only [List.map_cons, List.map_nil, Rect.off_unit, quad (k0_off26_eq k)]
    rfl

/-- After the second loop the scratch of multipliers holds them. -/
theorem m_read (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (v0 : IVec S8x128 32) (hv0 : ∀ (a : Fin 8) (b : Fin 128), v0 (ix2 a b) = BitVec.ofNat 32 b.val)
  (X9 : BufTy.Contents (Elt Ideal) arg9.view.ty)
  (X10 : BufTy.Contents (Elt Ideal) arg10.view.ty)
  (X11 : BufTy.Contents (Elt Ideal) arg11.view.ty) (f : arg12.view.ty.Contents (Elt Ideal)) :
    arg12.view.read (Elt Ideal) (arg12.view.writes (Elt Ideal) f
      (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k0_t2_loop.trips).1)
      = mB (arg9.view.read (Elt Ideal) X9) (arg10.view.read (Elt Ideal) X10) (arg11.view.read (Elt Ideal) X11) :=
  read_loop arg12.view f k0_t2_loop.trips 32
    (fun k => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k).1) _ _ (by decide) (by decide) rfl
    (fun k => by simp only; rw [pb_k0_t2_succ])
    (pieces2_m 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 hv0 X9 X10 X11)
    (m_read_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 hv0 X9 X10 X11)

set_option maxHeartbeats 4000000 in
/-- The stores of one trip into this buffer cover the trip's 32 rows. -/
theorem z_read_cover (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (v0 : IVec S8x128 32) (hv0 : ∀ (a : Fin 8) (b : Fin 128), v0 (ix2 a b) = BitVec.ofNat 32 b.val)
  (X9 : BufTy.Contents (Elt Ideal) arg9.view.ty)
  (X10 : BufTy.Contents (Elt Ideal) arg10.view.ty)
  (X11 : BufTy.Contents (Elt Ideal) arg11.view.ty)
    (k : Fin k0_t2_loop.trips) (y : Shape.Idx ⟨2, ![1024, 128]⟩) (h0 : 32 * k.val ≤ (y 0).val) (h1 : (y 0).val < 32 * k.val + 32) :
    ∃ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k).2.1, y ∈ p.1.set := by
  refine cover_tiles _ (32 * k.val) 8 128 1 4 (by decide) (by decide) (by decide) ?_ ?_ y h0 h1 (y 1).isLt
  · unfold trip_k0_t2
    dsimp only
    simp only [List.forall_mem_cons]
    refine ⟨?_, ?_, ?_, ?_, fun p hp => absurd hp List.not_mem_nil⟩
    all_goals exact ⟨fun _ => rfl, fun _ => rfl⟩
  · unfold trip_k0_t2
    dsimp only
    simp only [List.map_cons, List.map_nil, Rect.off_unit, quad (k0_off26_eq k)]
    rfl

/-- After the second loop the scratch of zero points holds them. -/
theorem z_read (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (v0 : IVec S8x128 32) (hv0 : ∀ (a : Fin 8) (b : Fin 128), v0 (ix2 a b) = BitVec.ofNat 32 b.val)
  (X9 : BufTy.Contents (Elt Ideal) arg9.view.ty)
  (X10 : BufTy.Contents (Elt Ideal) arg10.view.ty)
  (X11 : BufTy.Contents (Elt Ideal) arg11.view.ty) (f : arg13.view.ty.Contents (Elt Ideal)) :
    arg13.view.read (Elt Ideal) (arg13.view.writes (Elt Ideal) f
      (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k0_t2_loop.trips).2.1)
      = zB (arg9.view.read (Elt Ideal) X9) (arg10.view.read (Elt Ideal) X10) (arg11.view.read (Elt Ideal) X11) :=
  read_loop arg13.view f k0_t2_loop.trips 32
    (fun k => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k).2.1) _ _ (by decide) (by decide) rfl
    (fun k => by simp only; rw [pb_k0_t2_succ])
    (pieces2_z 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 hv0 X9 X10 X11)
    (z_read_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 hv0 X9 X10 X11)

set_option maxHeartbeats 4000000 in
/-- The stores of one trip into this buffer cover the trip's 32 rows. -/
theorem st_read_cover (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (v0 : IVec S8x128 32) (hv0 : ∀ (a : Fin 8) (b : Fin 128), v0 (ix2 a b) = BitVec.ofNat 32 b.val)
  (X9 : BufTy.Contents (Elt Ideal) arg9.view.ty)
  (X10 : BufTy.Contents (Elt Ideal) arg10.view.ty)
  (X11 : BufTy.Contents (Elt Ideal) arg11.view.ty)
    (k : Fin k0_t2_loop.trips) (y : Shape.Idx ⟨2, ![1024, 128]⟩) (h0 : 32 * k.val ≤ (y 0).val) (h1 : (y 0).val < 32 * k.val + 32) :
    ∃ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k).2.2.1, y ∈ p.1.set := by
  refine cover_tiles _ (32 * k.val) 8 128 1 4 (by decide) (by decide) (by decide) ?_ ?_ y h0 h1 (y 1).isLt
  · unfold trip_k0_t2
    dsimp only
    simp only [List.forall_mem_cons]
    refine ⟨?_, ?_, ?_, ?_, fun p hp => absurd hp List.not_mem_nil⟩
    all_goals exact ⟨fun _ => rfl, fun _ => rfl⟩
  · unfold trip_k0_t2
    dsimp only
    simp only [List.map_cons, List.map_nil, Rect.off_unit, quad (k0_off26_eq k)]
    rfl

/-- After the second loop the scratch of scales beside zero points holds them. -/
theorem st_read (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (v0 : IVec S8x128 32) (hv0 : ∀ (a : Fin 8) (b : Fin 128), v0 (ix2 a b) = BitVec.ofNat 32 b.val)
  (X9 : BufTy.Contents (Elt Ideal) arg9.view.ty)
  (X10 : BufTy.Contents (Elt Ideal) arg10.view.ty)
  (X11 : BufTy.Contents (Elt Ideal) arg11.view.ty) (f : arg14.view.ty.Contents (Elt Ideal)) :
    arg14.view.read (Elt Ideal) (arg14.view.writes (Elt Ideal) f
      (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k0_t2_loop.trips).2.2)
      = stB (arg9.view.read (Elt Ideal) X9) (arg10.view.read (Elt Ideal) X10) (arg11.view.read (Elt Ideal) X11) :=
  read_loop arg14.view f k0_t2_loop.trips 32
    (fun k => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X9 X10 X11 k).2.2) _ _ (by decide) (by decide) rfl
    (fun k => by simp only; rw [pb_k0_t2_succ])
    (pieces2_st 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 hv0 X9 X10 X11)
    (st_read_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 hv0 X9 X10 X11)

end Cert.KernelIdeal.Value
-- ==== Proof.Trip3.lean ====
/-
  One trip of the third loop: its stores of the codes.
-/
module

public import proofs.«01_k».proof.Proof.Gen.KernelIdeal.Loops
public import proofs.«01_k».proof.Proof.Spec
public import proofs.«01_k».proof.Proof.Tiles
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

set_option maxHeartbeats 16000000 in
/-- Every store of codes in one trip stores them. -/
theorem pieces3 (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X8 : BufTy.Contents (Elt Ideal) arg8.view.ty)
  (X12 : BufTy.Contents (Elt Ideal) arg12.view.ty)
  (X13 : BufTy.Contents (Elt Ideal) arg13.view.ty)
    (k : Fin k0_t3_loop.trips) :
    ∀ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X12 X13 k).1, ∀ x : p.1.shape.Idx,
      p.2 x = codesB (arg8.view.read (Elt Ideal) X8) (arg12.view.read (Elt Ideal) X12) (arg13.view.read (Elt Ideal) X13) (p.1.emb x) := by
  unfold trip_k0_t3
  dsimp only
  simp only [List.forall_mem_cons]
  refine ⟨?_, ?_, ?_, ?_, ?_, ?_, ?_, ?_, ?_, ?_, ?_, ?_, ?_, ?_, ?_, ?_, fun p hp => absurd hp List.not_mem_nil⟩
  all_goals
    intro x
    sl_unfold_run_names
    unfold_payloads
    idx_vars x
    pointwise [View.readAt_eq_ld, codesB, code1]
    blk_point [k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq]

end Cert.KernelIdeal.Value
-- ==== Proof.Loop3.lean ====
/-
  The buffers after loop 3 of a grid point, read whole.
-/
module

public import proofs.«01_k».proof.Proof.Trip3

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

set_option maxHeartbeats 4000000 in
/-- The stores of one trip into this buffer cover the trip's 32 rows. -/
theorem codes_read_cover (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X8 : BufTy.Contents (Elt Ideal) arg8.view.ty)
  (X12 : BufTy.Contents (Elt Ideal) arg12.view.ty)
  (X13 : BufTy.Contents (Elt Ideal) arg13.view.ty)
    (k : Fin k0_t3_loop.trips) (y : Shape.Idx ⟨2, ![1024, 2048]⟩) (h0 : 32 * k.val ≤ (y 0).val) (h1 : (y 0).val < 32 * k.val + 32) :
    ∃ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X12 X13 k).1, y ∈ p.1.set := by
  refine cover_tiles _ (32 * k.val) 32 128 16 1 (by decide) (by decide) (by decide) ?_ ?_ y h0 h1 (y 1).isLt
  · unfold trip_k0_t3
    dsimp only
    simp only [List.forall_mem_cons]
    refine ⟨?_, ?_, ?_, ?_, ?_, ?_, ?_, ?_, ?_, ?_, ?_, ?_, ?_, ?_, ?_, ?_, fun p hp => absurd hp List.not_mem_nil⟩
    all_goals exact ⟨fun _ => rfl, fun _ => rfl⟩
  · unfold trip_k0_t3
    dsimp only
    simp only [List.map_cons, List.map_nil, Rect.off_unit, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq]
    rfl

/-- After the third loop the result buffer of codes holds the codes. -/
theorem codes_read (𝒱 : Variants) (c : Dev nD) (bd : Option 𝒱.V) (i : grid0.Coords)
  (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
  (X8 : BufTy.Contents (Elt Ideal) arg8.view.ty)
  (X12 : BufTy.Contents (Elt Ideal) arg12.view.ty)
  (X13 : BufTy.Contents (Elt Ideal) arg13.view.ty) (f : arg5.view.ty.Contents (Elt Ideal)) :
    arg5.view.read (Elt Ideal) (arg5.view.writes (Elt Ideal) f
      (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X12 X13 k0_t3_loop.trips))
      = codesB (arg8.view.read (Elt Ideal) X8) (arg12.view.read (Elt Ideal) X12) (arg13.view.read (Elt Ideal) X13) :=
  read_loop arg5.view f k0_t3_loop.trips 32
    (fun k => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X12 X13 k)) _ _ (by decide) (by decide) rfl
    (fun k => by simp only; rw [pb_k0_t3_succ])
    (pieces3 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X12 X13)
    (codes_read_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X12 X13)

end Cert.KernelIdeal.Value
-- ==== Proof.Columns.lean ====
/-
  Between the second and the third loop, two columns of the buffer of scales beside zero points become two rows, one block of 128
  rows at a time.
-/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- The first column of a block, as a row. -/
theorem pay400_at (v : Vec Ideal S128x128 .f32) (x : S1x1x128.Idx) : k0_pay400 (F := Ideal) v x = v (ix2 (x 2) 0) := by
  idx_vars x
  pointwise [k0_pay400, k0_pay399]

/-- Column 64 of a block, converted to integers, as a row. -/
theorem pay401_at (v : Vec Ideal S128x128 .f32) (x : S1x1x128.Idx) :
    k0_pay401 (F := Ideal) v x = FloatOps.fptosi (F := Ideal) (φ := .f32) 32 (v (ix2 (x 2) 64)) := by
  idx_vars x
  pointwise [k0_pay401, k0_pay399]

/-- A row of 1024 places is covered by eight rows of 128. -/
theorem rows_cover {Val : EltTy → Type} {e : EltTy} (L : List (View.Piece Val S1x1x1024 e))
    (hL : ∀ b : Fin 8, ∃ p ∈ L, ∃ inb, p.1 = Rect.unit (s := S1x1x1024) ![0, 0, 128 * b.val] S1x1x128.size inb) (y : S1x1x1024.Idx) :
    ∃ p ∈ L, y ∈ p.1.set := by
  have h2 : (y 2).val < 1024 := (y 2).isLt
  obtain ⟨⟨r, g⟩, hp, inb, e⟩ := hL ⟨(y 2).val / 128, by omega⟩
  simp only at e
  subst e
  refine ⟨_, hp, (Rect.unit (s := S1x1x1024) ![0, 0, 128 * ((y 2).val / 128)] S1x1x128.size inb).mem_set.mpr fun b => ?_⟩
  match b with
  | 0 => exact ⟨0, Nat.one_pos, by have := (y 0).isLt; show (y 0).val = 0 + 1 * 0; change _ < 1 at this; omega⟩
  | 1 => exact ⟨0, Nat.one_pos, by have := (y 1).isLt; show (y 1).val = 0 + 1 * 0; change _ < 1 at this; omega⟩
  | 2 => exact ⟨(y 2).val % 128, Nat.mod_lt _ (by decide), by show (y 2).val = 128 * ((y 2).val / 128) + 1 * _; omega⟩

set_option maxHeartbeats 4000000 in
/-- The eight stores of scales leave the first column, as a row. -/
theorem scale_read (v : View sig .tc .vmem S1x1x1024 .f32) (f : v.ty.Contents (Elt Ideal))
    (w : View sig .tc .vmem S1024x128 .f32) (S : w.ty.Contents (Elt Ideal)) :
    v.read (Elt Ideal) (v.writes (Elt Ideal) f
       [⟨Rect.unit (s := S1x1x1024) ![0, 0, 896] S1x1x128.size inb_S1x1x1024_S1x1x128_0_0_896,
          k0_pay400 (F := Ideal) (View.readAt (Elt Ideal) w (Rect.unit (s := S1024x128) ![896, 0] S128x128.size inb_S1024x128_S128x128_896_0).toLoadRect S)⟩,
        ⟨Rect.unit (s := S1x1x1024) ![0, 0, 768] S1x1x128.size inb_S1x1x1024_S1x1x128_0_0_768,
          k0_pay400 (F := Ideal) (View.readAt (Elt Ideal) w (Rect.unit (s := S1024x128) ![768, 0] S128x128.size inb_S1024x128_S128x128_768_0).toLoadRect S)⟩,
        ⟨Rect.unit (s := S1x1x1024) ![0, 0, 640] S1x1x128.size inb_S1x1x1024_S1x1x128_0_0_640,
          k0_pay400 (F := Ideal) (View.readAt (Elt Ideal) w (Rect.unit (s := S1024x128) ![640, 0] S128x128.size inb_S1024x128_S128x128_640_0).toLoadRect S)⟩,
        ⟨Rect.unit (s := S1x1x1024) ![0, 0, 512] S1x1x128.size inb_S1x1x1024_S1x1x128_0_0_512,
          k0_pay400 (F := Ideal) (View.readAt (Elt Ideal) w (Rect.unit (s := S1024x128) ![512, 0] S128x128.size inb_S1024x128_S128x128_512_0).toLoadRect S)⟩,
        ⟨Rect.unit (s := S1x1x1024) ![0, 0, 384] S1x1x128.size inb_S1x1x1024_S1x1x128_0_0_384,
          k0_pay400 (F := Ideal) (View.readAt (Elt Ideal) w (Rect.unit (s := S1024x128) ![384, 0] S128x128.size inb_S1024x128_S128x128_384_0).toLoadRect S)⟩,
        ⟨Rect.unit (s := S1x1x1024) ![0, 0, 256] S1x1x128.size inb_S1x1x1024_S1x1x128_0_0_256,
          k0_pay400 (F := Ideal) (View.readAt (Elt Ideal) w (Rect.unit (s := S1024x128) ![256, 0] S128x128.size inb_S1024x128_S128x128_256_0).toLoadRect S)⟩,
        ⟨Rect.unit (s := S1x1x1024) ![0, 0, 128] S1x1x128.size inb_S1x1x1024_S1x1x128_0_0_128,
          k0_pay400 (F := Ideal) (View.readAt (Elt Ideal) w (Rect.unit (s := S1024x128) ![128, 0] S128x128.size inb_S1024x128_S128x128_128_0).toLoadRect S)⟩,
        ⟨Rect.unit (s := S1x1x1024) ![0, 0, 0] S1x1x128.size inb_S1x1x1024_S1x1x128_0_0_0,
          k0_pay400 (F := Ideal) (View.readAt (Elt Ideal) w (Rect.unit (s := S1024x128) ![0, 0] S128x128.size inb_S1024x128_S128x128_0_0).toLoadRect S)⟩])
      = fun y => w.read (Elt Ideal) S (ix2 (y 2) 0) := by
  funext y
  refine View.read_writes_apply_of_pieces v f (fun y : S1x1x1024.Idx => w.read (Elt Ideal) S (ix2 (y 2) 0)) _ ?_ y (rows_cover _ ?_ y)
  · simp only [List.forall_mem_cons]
    refine ⟨?_, ?_, ?_, ?_, ?_, ?_, ?_, ?_, fun p hp => absurd hp List.not_mem_nil⟩ <;>
      (intro x; rw [pay400_at]; idx_vars x; pointwise [View.readAt_eq_ld]; blk_point)
  · intro b
    fin_cases b
    exacts [⟨_, .tail _ (.tail _ (.tail _ (.tail _ (.tail _ (.tail _ (.tail _ (.head _))))))), inb_S1x1x1024_S1x1x128_0_0_0, rfl⟩,
      ⟨_, .tail _ (.tail _ (.tail _ (.tail _ (.tail _ (.tail _ (.head _)))))), inb_S1x1x1024_S1x1x128_0_0_128, rfl⟩,
      ⟨_, .tail _ (.tail _ (.tail _ (.tail _ (.tail _ (.head _))))), inb_S1x1x1024_S1x1x128_0_0_256, rfl⟩,
      ⟨_, .tail _ (.tail _ (.tail _ (.tail _ (.head _)))), inb_S1x1x1024_S1x1x128_0_0_384, rfl⟩,
      ⟨_, .tail _ (.tail _ (.tail _ (.head _))), inb_S1x1x1024_S1x1x128_0_0_512, rfl⟩,
      ⟨_, .tail _ (.tail _ (.head _)), inb_S1x1x1024_S1x1x128_0_0_640, rfl⟩,
      ⟨_, .tail _ (.head _), inb_S1x1x1024_S1x1x128_0_0_768, rfl⟩,
      ⟨_, .head _, inb_S1x1x1024_S1x1x128_0_0_896, rfl⟩]

set_option maxHeartbeats 4000000 in
/-- The eight stores of zero points leave column 64 converted to integers, as a row. -/
theorem zp_read (v : View sig .tc .vmem S1x1x1024 .i32) (f : v.ty.Contents (Elt Ideal))
    (w : View sig .tc .vmem S1024x128 .f32) (S : w.ty.Contents (Elt Ideal)) :
    v.read (Elt Ideal) (v.writes (Elt Ideal) f
       [⟨Rect.unit (s := S1x1x1024) ![0, 0, 896] S1x1x128.size inb_S1x1x1024_S1x1x128_0_0_896,
          k0_pay401 (F := Ideal) (View.readAt (Elt Ideal) w (Rect.unit (s := S1024x128) ![896, 0] S128x128.size inb_S1024x128_S128x128_896_0).toLoadRect S)⟩,
        ⟨Rect.unit (s := S1x1x1024) ![0, 0, 768] S1x1x128.size inb_S1x1x1024_S1x1x128_0_0_768,
          k0_pay401 (F := Ideal) (View.readAt (Elt Ideal) w (Rect.unit (s := S1024x128) ![768, 0] S128x128.size inb_S1024x128_S128x128_768_0).toLoadRect S)⟩,
        ⟨Rect.unit (s := S1x1x1024) ![0, 0, 640] S1x1x128.size inb_S1x1x1024_S1x1x128_0_0_640,
          k0_pay401 (F := Ideal) (View.readAt (Elt Ideal) w (Rect.unit (s := S1024x128) ![640, 0] S128x128.size inb_S1024x128_S128x128_640_0).toLoadRect S)⟩,
        ⟨Rect.unit (s := S1x1x1024) ![0, 0, 512] S1x1x128.size inb_S1x1x1024_S1x1x128_0_0_512,
          k0_pay401 (F := Ideal) (View.readAt (Elt Ideal) w (Rect.unit (s := S1024x128) ![512, 0] S128x128.size inb_S1024x128_S128x128_512_0).toLoadRect S)⟩,
        ⟨Rect.unit (s := S1x1x1024) ![0, 0, 384] S1x1x128.size inb_S1x1x1024_S1x1x128_0_0_384,
          k0_pay401 (F := Ideal) (View.readAt (Elt Ideal) w (Rect.unit (s := S1024x128) ![384, 0] S128x128.size inb_S1024x128_S128x128_384_0).toLoadRect S)⟩,
        ⟨Rect.unit (s := S1x1x1024) ![0, 0, 256] S1x1x128.size inb_S1x1x1024_S1x1x128_0_0_256,
          k0_pay401 (F := Ideal) (View.readAt (Elt Ideal) w (Rect.unit (s := S1024x128) ![256, 0] S128x128.size inb_S1024x128_S128x128_256_0).toLoadRect S)⟩,
        ⟨Rect.unit (s := S1x1x1024) ![0, 0, 128] S1x1x128.size inb_S1x1x1024_S1x1x128_0_0_128,
          k0_pay401 (F := Ideal) (View.readAt (Elt Ideal) w (Rect.unit (s := S1024x128) ![128, 0] S128x128.size inb_S1024x128_S128x128_128_0).toLoadRect S)⟩,
        ⟨Rect.unit (s := S1x1x1024) ![0, 0, 0] S1x1x128.size inb_S1x1x1024_S1x1x128_0_0_0,
          k0_pay401 (F := Ideal) (View.readAt (Elt Ideal) w (Rect.unit (s := S1024x128) ![0, 0] S128x128.size inb_S1024x128_S128x128_0_0).toLoadRect S)⟩])
      = fun y => FloatOps.fptosi (F := Ideal) (φ := .f32) 32 (w.read (Elt Ideal) S (ix2 (y 2) 64)) := by
  funext y
  refine View.read_writes_apply_of_pieces v f
    (fun y : S1x1x1024.Idx => FloatOps.fptosi (F := Ideal) (φ := .f32) 32 (w.read (Elt Ideal) S (ix2 (y 2) 64))) _ ?_ y (rows_cover _ ?_ y)
  · simp only [List.forall_mem_cons]
    refine ⟨?_, ?_, ?_, ?_, ?_, ?_, ?_, ?_, fun p hp => absurd hp List.not_mem_nil⟩ <;>
      (intro x; rw [pay401_at]; idx_vars x; pointwise [View.readAt_eq_ld]; blk_point)
  · intro b
    fin_cases b
    exacts [⟨_, .tail _ (.tail _ (.tail _ (.tail _ (.tail _ (.tail _ (.tail _ (.head _))))))), inb_S1x1x1024_S1x1x128_0_0_0, rfl⟩,
      ⟨_, .tail _ (.tail _ (.tail _ (.tail _ (.tail _ (.tail _ (.head _)))))), inb_S1x1x1024_S1x1x128_0_0_128, rfl⟩,
      ⟨_, .tail _ (.tail _ (.tail _ (.tail _ (.tail _ (.head _))))), inb_S1x1x1024_S1x1x128_0_0_256, rfl⟩,
      ⟨_, .tail _ (.tail _ (.tail _ (.tail _ (.head _)))), inb_S1x1x1024_S1x1x128_0_0_384, rfl⟩,
      ⟨_, .tail _ (.tail _ (.tail _ (.head _))), inb_S1x1x1024_S1x1x128_0_0_512, rfl⟩,
      ⟨_, .tail _ (.tail _ (.head _)), inb_S1x1x1024_S1x1x128_0_0_640, rfl⟩,
      ⟨_, .tail _ (.head _), inb_S1x1x1024_S1x1x128_0_0_768, rfl⟩,
      ⟨_, .head _, inb_S1x1x1024_S1x1x128_0_0_896, rfl⟩]

end Cert.KernelIdeal.Value
-- ==== Proof.Body.lean ====
/-
  One grid point of the idealized kernel: run on its three input blocks, the body leaves the four results of those blocks.
-/
module

public import proofs.«01_k».proof.Proof.Loop1
public import proofs.«01_k».proof.Proof.Loop2
public import proofs.«01_k».proof.Proof.Loop3
public import proofs.«01_k».proof.Proof.Columns
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

local notation "𝕄" => MT nD τ sig Unit (Elt Ideal) ℕ (UR sig nD τ) ℕ

/-- The lanewise minima, maxima and sums of squares of a grid point's blocks, and from them the lanes of multipliers, zero
    points, and scales beside zero points. -/
def mP (x0 x1 : FVec Ideal S1024x2048 .bf16) (x2 : FVec Ideal S8x2048 .f32) : FVec Ideal S1024x128 .f32 :=
  mB (mnB (tB x0 x1 x2)) (mxB (tB x0 x1 x2)) (ssB (nrB x0 x1))
@[inherit_doc mP]
def zP (x0 x1 : FVec Ideal S1024x2048 .bf16) (x2 : FVec Ideal S8x2048 .f32) : FVec Ideal S1024x128 .f32 :=
  zB (mnB (tB x0 x1 x2)) (mxB (tB x0 x1 x2)) (ssB (nrB x0 x1))
@[inherit_doc mP]
def stP (x0 x1 : FVec Ideal S1024x2048 .bf16) (x2 : FVec Ideal S8x2048 .f32) : FVec Ideal S1024x128 .f32 :=
  stB (mnB (tB x0 x1 x2)) (mxB (tB x0 x1 x2)) (ssB (nrB x0 x1))

/-- The codes of a grid point. -/
def codesP (x0 x1 : FVec Ideal S1024x2048 .bf16) (x2 : FVec Ideal S8x2048 .f32) : IVec S1024x2048 8 :=
  codesB (tB x0 x1 x2) (mP x0 x1 x2) (zP x0 x1 x2)

/-- The scales of a grid point, one per row, in a row. -/
def scaleP (x0 x1 : FVec Ideal S1024x2048 .bf16) (x2 : FVec Ideal S8x2048 .f32) : FVec Ideal S1x1x1024 .f32 := fun y =>
  stP x0 x1 x2 (ix2 (y 2) 0)

/-- The zero points of a grid point, one per row, in a row, as integers. -/
def zpP (x0 x1 : FVec Ideal S1024x2048 .bf16) (x2 : FVec Ideal S8x2048 .f32) : IVec S1x1x1024 32 := fun y =>
  FloatOps.fptosi (F := Ideal) (φ := .f32) 32 (stP x0 x1 x2 (ix2 (y 2) 64))

set_option maxHeartbeats 4000000 in
/-- The body's triple: from its input blocks in the staging buffers, the body ends with the four results in the output buffers,
    the inputs as they were and the scratch at some contents. -/
theorem body_run (c : Dev nD) (i : grid0.Coords) (arg1 : Memref sig .tc .vmem S1024x2048 .bf16) (harg1 : arg1.IsWhole) (arg2 : Memref sig .tc .vmem S1024x2048 .bf16) (harg2 : arg2.IsWhole)
  (arg3 : Memref sig .tc .vmem S8x2048 .f32) (harg3 : arg3.IsWhole) (arg4 : Memref sig .tc .vmem S1024x2048 .bf16) (harg4 : arg4.IsWhole)
  (arg5 : Memref sig .tc .vmem S1024x2048 .i8) (harg5 : arg5.IsWhole) (arg6 : Memref sig .tc .vmem S1x1x1024 .f32) (harg6 : arg6.IsWhole)
  (arg7 : Memref sig .tc .vmem S1x1x1024 .i32) (harg7 : arg7.IsWhole) (arg8 : Memref sig .tc .vmem S1024x2048 .f32) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole) (arg12 : Memref sig .tc .vmem S1024x128 .f32) (harg12 : arg12.IsWhole)
  (arg13 : Memref sig .tc .vmem S1024x128 .f32) (harg13 : arg13.IsWhole) (arg14 : Memref sig .tc .vmem S1024x128 .f32) (harg14 : arg14.IsWhole)
    (x0 x1 : FVec Ideal S1024x2048 .bf16) (x2 : FVec Ideal S8x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare (nrB x0 x1) ∗ owns (c : Thread nD τ) arg5 fullShare (codesP x0 x1 x2) ∗ owns (c : Thread nD τ) arg6 fullShare (scaleP x0 x1 x2) ∗ owns (c : Thread nD τ) arg7 fullShare (zpP x0 x1 x2) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := Ideal)) Variants.none c none) E (cc0_add_rmsnorm_quant i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_add_rmsnorm_quant_eq_skeleton]; unfold cc0_add_rmsnorm_quant_skel
    simp only [k0_part37_eq_skeleton, k0_part38_eq_skeleton, k0_part39_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2
    sl_exec
    sl_step
    iapply Hk
    have hv0 : ∀ (a : Fin 8) (b : Fin 128), body_run.sl.v0 (ix2 a b) = BitVec.ofNat 32 b.val := by
      intro a b
      sl_unfold_run_names
      show BitVec.ofNat 32 (0 * 128 + b.val) = _
      rw [Nat.zero_mul, Nat.zero_add]
    have e8 := t_read Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) fs0
    have e9 := mn_read Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) fs1
    have e10 := mx_read Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) fs2
    have e11 := ss_read Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) fs3
    have e4 := nr_read Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) f3
    rw [harg1.read_unread, harg2.read_unread] at e4 e11
    rw [harg1.read_unread, harg2.read_unread, harg3.read_unread] at e8 e9 e10
    have E3 : ∀ {γ : Type} (g : FVec Ideal S1024x128 .f32 → FVec Ideal S1024x128 .f32 → FVec Ideal S1024x128 .f32 → γ) {a a' b b' d d'},
        a = a' → b = b' → d = d' → g a b d = g a' b' d' := by
      rintro γ g a _ b _ d _ rfl rfl rfl; rfl
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr; swap
      · iexact H3
      ipureintro
      exact e4
    isplitl [H4]
    · iexists _; isplitr; swap
      · iexact H4
      ipureintro
      refine (codes_read Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ f4).trans ?_
      have em := (m_read Variants.none c none i arg1 harg1 arg2 harg2 arg3 harg3 arg4 harg4 arg5 harg5 arg6 harg6 arg7 harg7 arg8 harg8 arg9 harg9 arg10 harg10 arg11 harg11 arg12 harg12 arg13 harg13 arg14 harg14 _ hv0 _ _ _ fs4).trans (E3 mB e9 e10 e11)
      have ez := (z_read Variants.none c none i arg1 harg1 arg2 harg2 arg3 harg3 arg4 harg4 arg5 harg5 arg6 harg6 arg7 harg7 arg8 harg8 arg9 harg9 arg10 harg10 arg11 harg11 arg12 harg12 arg13 harg13 arg14 harg14 _ hv0 _ _ _ fs5).trans (E3 zB e9 e10 e11)
      exact congr (congr (congrArg codesB e8) em) ez
    isplitl [H5]
    · iexists _; isplitr; swap
      · iexact H5
      ipureintro
      have es := (st_read Variants.none c none i arg1 harg1 arg2 harg2 arg3 harg3 arg4 harg4 arg5 harg5 arg6 harg6 arg7 harg7 arg8 harg8 arg9 harg9 arg10 harg10 arg11 harg11 arg12 harg12 arg13 harg13 arg14 harg14 _ hv0 _ _ _ fs6).trans (E3 stB e9 e10 e11)
      sl_unfold_run_names
      refine (scale_read _ _ _ _).trans ?_
      funext y
      exact congrFun es _
    isplitl [H6]
    · iexists _; isplitr; swap
      · iexact H6
      ipureintro
      have es := (st_read Variants.none c none i arg1 harg1 arg2 harg2 arg3 harg3 arg4 harg4 arg5 harg5 arg6 harg6 arg7 harg7 arg8 harg8 arg9 harg9 arg10 harg10 arg11 harg11 arg12 harg12 arg13 harg13 arg14 harg14 _ hv0 _ _ _ fs6).trans (E3 stB e9 e10 e11)
      sl_unfold_run_names
      refine (zp_read _ _ _ _).trans ?_
      funext y
      exact congrArg _ (congrFun es _)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Value
-- ==== Proof.Run.lean ====
/-
  The run of the idealized kernel over its grid: every grid point leaves the results of its input blocks, and the program ends
  with its result arrays assembled from them and its arguments as they were.
-/
module

public import proofs.«01_k».proof.Proof.Body
public import Idealize.ShloMosaic.Lib.Claim

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Each window's current staging memref at a point. -/
abbrev st0 (t : Fin cfg0.N) : Memref sig .tc .vmem S1024x2048 .bf16 := win0_0.stage (cfg0.slots t 0)
abbrev st1 (t : Fin cfg0.N) : Memref sig .tc .vmem S1024x2048 .bf16 := win0_1.stage (cfg0.slots t 1)
abbrev st2 (t : Fin cfg0.N) : Memref sig .tc .vmem S8x2048 .f32 := win0_2.stage (cfg0.slots t 2)
abbrev st3 (t : Fin cfg0.N) : Memref sig .tc .vmem S1024x2048 .bf16 := win0_3.stage (cfg0.slots t 3)
abbrev st4 (t : Fin cfg0.N) : Memref sig .tc .vmem S1024x2048 .i8 := win0_4.stage (cfg0.slots t 4)
abbrev st5 (t : Fin cfg0.N) : Memref sig .tc .vmem S1x1x1024 .f32 := win0_5.stage (cfg0.slots t 5)
abbrev st6 (t : Fin cfg0.N) : Memref sig .tc .vmem S1x1x1024 .i32 := win0_6.stage (cfg0.slots t 6)

/-- The scratch buffers. -/
abbrev sc0 : Memref sig .tc .vmem S1024x2048 .f32 := Memref.whole cc0_scratch0
abbrev sc1 : Memref sig .tc .vmem S1024x128 .f32 := Memref.whole cc0_scratch1
abbrev sc2 : Memref sig .tc .vmem S1024x128 .f32 := Memref.whole cc0_scratch2
abbrev sc3 : Memref sig .tc .vmem S1024x128 .f32 := Memref.whole cc0_scratch3
abbrev sc4 : Memref sig .tc .vmem S1024x128 .f32 := Memref.whole cc0_scratch4
abbrev sc5 : Memref sig .tc .vmem S1024x128 .f32 := Memref.whole cc0_scratch5
abbrev sc6 : Memref sig .tc .vmem S1024x128 .f32 := Memref.whole cc0_scratch6

/-- The invariant between grid points: the scratch buffers owned at some contents, and the generator register. -/
theorem inv_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-- The proof data of the pipeline on core `c`: after the body at point `t`, each input's buffer holds its block and each output's
    buffer the result of the three blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => nrB (iblk m c 0 t) (iblk m c 1 t)
    | ⟨4, _⟩ => codesP (iblk m c 0 t) (iblk m c 1 t) (iblk m c 2 t)
    | ⟨5, _⟩ => scaleP (iblk m c 0 t) (iblk m c 1 t) (iblk m c 2 t)
    | ⟨6, _⟩ => zpP (iblk m c 0 t) (iblk m c 1 t) (iblk m c 2 t)
  Φ _ := Pipeline.ΦA spec0 c
  q _ := fullShare
  owed _ := 0

/-- The proof data's arrays are the contents at the pipeline's start. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = nrB (iblk m c 0 t) (iblk m c 1 t) := by dsimp only [dats]
/-- What the body leaves in window 4. -/
theorem after0_4 (c : Dev nD) (t : Fin cfg0.N) : (dats m 0 c).after 4 t = codesP (iblk m c 0 t) (iblk m c 1 t) (iblk m c 2 t) := by dsimp only [dats]
/-- What the body leaves in window 5. -/
theorem after0_5 (c : Dev nD) (t : Fin cfg0.N) : (dats m 0 c).after 5 t = scaleP (iblk m c 0 t) (iblk m c 1 t) (iblk m c 2 t) := by dsimp only [dats]
/-- What the body leaves in window 6. -/
theorem after0_6 (c : Dev nD) (t : Fin cfg0.N) : (dats m 0 c).after 6 t = zpP (iblk m c 0 t) (iblk m c 1 t) (iblk m c 2 t) := by dsimp only [dats]

/-- Input window 0's buffer holds its block at every point. -/
theorem before0_0 (c : Dev nD) (t : Fin cfg0.N) (d) : (dats m 0 c).before 0 t d = iblk m c 0 t :=
  before0_0_of m (dats m 0 c) (A_eq m c 0) (after0_0 m c) t d
/-- Input window 1's buffer holds its block at every point. -/
theorem before0_1 (c : Dev nD) (t : Fin cfg0.N) (d) : (dats m 0 c).before 1 t d = iblk m c 1 t :=
  before0_1_of m (dats m 0 c) (A_eq m c 1) (after0_1 m c) t d
/-- Input window 2's buffer holds its block at every point. -/
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

set_option maxHeartbeats 1200000 in
/-- The body at any point of the grid. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, inv_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point's slots is the body. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run of the program, with every semaphore counter at zero at the end. -/
theorem run_main_quiescent : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the program: its pipeline's arrays end as the proof data says. -/
theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The program terminates with its arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Value
-- ==== Proof.RowMath.lean ====
/-
  The row equations, over the extended reals and with no program in sight.

  A row has 2048 summed entries `r k` and weights `g k`. The kernel takes the least and greatest of `r k * g k` and
  applies the row's factor afterwards; the reference applies the factor to every entry first. The factor is
  nonnegative, so the two agree.
-/
module

public import proofs.«01_k».proof.Proof.Spec

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- The sum of a row's squares. -/
def ssR (r : Fin 2048 → EReal) : EReal := ∑ k, r k * r k

/-- The row's factor: the reciprocal square root of the mean square plus the small constant. -/
def rsR (ss : EReal) : EReal :=
  Ideal.rsqrt (Ideal.div ss (Ideal.ofBits .f32 0x45000000#32) + Ideal.ofBits .f32 0x358637BD#32)

/-- The normalized row: the entry times the row's factor times the column's weight. -/
def yR (r g : Fin 2048 → EReal) (k : Fin 2048) : EReal := r k * rsR (ssR r) * g k

/-- The least normalized value of the row. -/
def loR (r g : Fin 2048 → EReal) : EReal := Finset.univ.inf (yR r g)

/-- The greatest normalized value of the row. -/
def hiR (r g : Fin 2048 → EReal) : EReal := Finset.univ.sup (yR r g)

/-- The scale: one 255th of the row's range, or one when the range is empty. -/
def scR (r g : Fin 2048 → EReal) : EReal :=
  if hiR r g = loR r g then 1 else Ideal.div (hiR r g - loR r g) (Ideal.ofBits .f32 0x437F0000#32)

/-- The zero point: where the row's least value sends −128, rounded and clipped. -/
def zpR (r g : Fin 2048 → EReal) : EReal :=
  min (Ideal.ofBits .f32 0x42FE0000#32) (max (Ideal.ofBits .f32 0xC3000000#32)
    (Ideal.liftRound Ideal.roundHalfEven (Ideal.ofBits .f32 0xC3000000#32 - Ideal.div (loR r g) (scR r g))))

/-- The code of column `k`. -/
def codeR (r g : Fin 2048 → EReal) (k : Fin 2048) : BitVec 8 :=
  (FloatOps.fptosi (F := Ideal) (φ := .f32) 32 (min (Ideal.ofBits .f32 0x42FE0000#32)
    (max (Ideal.ofBits .f32 0xC3000000#32)
      (Ideal.liftRound Ideal.roundHalfEven (Ideal.div (yR r g k) (scR r g)) + zpR r g)))).setWidth 8

/-- The bits of +∞. -/
theorem bits_top : Ideal.ofBits .f32 0x7F800000#32 = ⊤ := by simp [Ideal.ofBits, Ideal.ieee]

/-- The bits of −∞. -/
theorem bits_bot : Ideal.ofBits .f32 0xFF800000#32 = ⊥ := by simp [Ideal.ofBits, Ideal.ieee]

/-- A minimum taken from +∞ is an infimum. -/
theorem fold_min_eq {n : ℕ} (f : Fin n → EReal) :
    Finset.fold min (Ideal.ofBits .f32 0x7F800000#32) f Finset.univ = Finset.univ.inf f := by
  rw [bits_top]; rfl

/-- A maximum taken from −∞ is a supremum. -/
theorem fold_max_eq {n : ℕ} (f : Fin n → EReal) :
    Finset.fold max (Ideal.ofBits .f32 0xFF800000#32) f Finset.univ = Finset.univ.sup f := by
  rw [bits_bot]; rfl

/-- The bits of 2048. -/
theorem bits_2048 : Ideal.ofBits .f32 0x45000000#32 = ((2048 : ℝ) : EReal) := by
  simp [Ideal.ofBits, Ideal.ieee, -EReal.coe_mul]; norm_num

/-- The bits of 1/2048. -/
theorem bits_inv2048 : Ideal.ofBits .f32 0x3A000000#32 = ((1 / 2048 : ℝ) : EReal) := by
  simp [Ideal.ofBits, Ideal.ieee, -EReal.coe_mul]; norm_num

/-- The bits of 255. -/
theorem bits_255 : Ideal.ofBits .f32 0x437F0000#32 = ((255 : ℝ) : EReal) := by
  simp [Ideal.ofBits, Ideal.ieee, -EReal.coe_mul]; norm_num

/-- The bits of 127. -/
theorem bits_127 : Ideal.ofBits .f32 0x42FE0000#32 = ((127 : ℝ) : EReal) := by
  simp [Ideal.ofBits, Ideal.ieee, -EReal.coe_mul]; norm_num

/-- The bits of −128. -/
theorem bits_neg128 : Ideal.ofBits .f32 0xC3000000#32 = ((-128 : ℝ) : EReal) := by
  simp [Ideal.ofBits, Ideal.ieee, -EReal.coe_mul]; norm_num

/-- The small constant added to the mean square is a positive real. -/
theorem bits_eps : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

/-- The constant of the idealized kernel named as one 255th is one 255th. -/
theorem named_inv255 :
    Named.named (F := Ideal) (φ := .f32) κ "inv_levels" 0x3B808081#32 = ((1 / 255 : ℝ) : EReal) :=
  IdealRules.named_const.ideal_named_scalar _ _ _ _ rfl

/-- The kernel's factor is the reference's: multiplying by 1/2048 is dividing by 2048. -/
theorem rsS_eq (ss : EReal) : rsS ss = rsR ss := by
  unfold rsS rsR
  rw [bits_2048, bits_inv2048, Ideal.div_coe (by norm_num)]

/-- A square is nonnegative. -/
theorem mul_self_nonneg_ereal (x : EReal) : 0 ≤ x * x := by
  induction x with
  | bot => simp
  | top => simp
  | coe x => exact_mod_cast mul_self_nonneg x

/-- The sum of squares is nonnegative. -/
theorem ssR_nonneg (r : Fin 2048 → EReal) : 0 ≤ ssR r := Finset.sum_nonneg fun k _ => mul_self_nonneg_ereal (r k)

/-- The row's factor is nonnegative. -/
theorem rsR_nonneg (ss : EReal) (h : 0 ≤ ss) : 0 ≤ rsR ss := by
  obtain ⟨e, he, hb⟩ := bits_eps
  unfold rsR
  rw [bits_2048, Ideal.div_coe (by norm_num), hb]
  have h1 : (0 : EReal) ≤ ss * ((1 / 2048 : ℝ) : EReal) := mul_nonneg h (by exact_mod_cast (by norm_num : (0 : ℝ) ≤ 1 / 2048))
  generalize ss * ((1 / 2048 : ℝ) : EReal) = a at h1
  induction a with
  | bot => simp at h1
  | top => simp
  | coe a =>
    have ha : 0 ≤ a := by exact_mod_cast h1
    rw [← EReal.coe_add, Ideal.rsqrt_coe, if_neg (by linarith), if_neg (by linarith)]
    exact_mod_cast inv_nonneg.2 (Real.sqrt_nonneg _)

/-- A nonnegative factor goes through a row's minimum. -/
theorem inf_mul (t : Fin 2048 → EReal) {ρ : EReal} (h : 0 ≤ ρ) :
    Finset.univ.inf t * ρ = Finset.univ.inf fun k => t k * ρ := by
  refine le_antisymm (Finset.le_inf fun k hk => mul_le_mul_of_nonneg_right (Finset.inf_le hk) h) ?_
  obtain ⟨k, hk, e⟩ := Finset.exists_mem_eq_inf Finset.univ ⟨0, Finset.mem_univ _⟩ t
  rw [e]
  exact Finset.inf_le (f := fun k => t k * ρ) hk

/-- A nonnegative factor goes through a row's maximum. -/
theorem sup_mul (t : Fin 2048 → EReal) {ρ : EReal} (h : 0 ≤ ρ) :
    Finset.univ.sup t * ρ = Finset.univ.sup fun k => t k * ρ := by
  refine le_antisymm ?_ (Finset.sup_le fun k hk => mul_le_mul_of_nonneg_right (Finset.le_sup hk) h)
  obtain ⟨k, hk, e⟩ := Finset.exists_mem_eq_sup Finset.univ ⟨0, Finset.mem_univ _⟩ t
  rw [e]
  exact Finset.le_sup (f := fun k => t k * ρ) hk

/-- The value before the factor, times the factor, is the normalized value. -/
theorem row_mul (r g : Fin 2048 → EReal) (k : Fin 2048) : r k * g k * rsR (ssR r) = yR r g k :=
  mul_right_comm _ _ _

/-- The kernel's least value times the factor is the least normalized value. -/
theorem lo_eq (r g : Fin 2048 → EReal) : (Finset.univ.inf fun k => r k * g k) * rsR (ssR r) = loR r g := by
  rw [inf_mul _ (rsR_nonneg _ (ssR_nonneg r))]
  exact congrArg (Finset.inf _) (funext (row_mul r g))

/-- The kernel's greatest value times the factor is the greatest normalized value. -/
theorem hi_eq (r g : Fin 2048 → EReal) : (Finset.univ.sup fun k => r k * g k) * rsR (ssR r) = hiR r g := by
  rw [sup_mul _ (rsR_nonneg _ (ssR_nonneg r))]
  exact congrArg (Finset.sup _) (funext (row_mul r g))

/-- The least normalized value is at most the greatest. -/
theorem lo_le_hi (r g : Fin 2048 → EReal) : loR r g ≤ hiR r g :=
  (Finset.inf_le (Finset.mem_univ (0 : Fin 2048))).trans (Finset.le_sup (f := yR r g) (Finset.mem_univ (0 : Fin 2048)))

/-- The kernel's scale is the reference's. -/
theorem scale_eq (r g : Fin 2048 → EReal) :
    scS (Finset.univ.inf fun k => r k * g k) (Finset.univ.sup fun k => r k * g k) (ssR r) = scR r g := by
  unfold scS scR
  rw [rsS_eq, lo_eq, hi_eq, named_inv255, bits_255, Ideal.div_coe (by norm_num)]

/-- The kernel's zero point is the reference's. -/
theorem zero_point_eq (r g : Fin 2048 → EReal) :
    zpS (Finset.univ.inf fun k => r k * g k) (Finset.univ.sup fun k => r k * g k) (ssR r) = zpR r g := by
  unfold zpS zpR
  rw [scale_eq, rsS_eq, lo_eq]

/-- The scale is never zero. -/
theorem scR_ne_zero (r g : Fin 2048 → EReal) : scR r g ≠ 0 := by
  unfold scR
  split_ifs with h
  · exact one_ne_zero
  · have h1 : 0 < hiR r g - loR r g := EReal.sub_pos.2 (lt_of_le_of_ne (lo_le_hi r g) (Ne.symm h))
    rw [bits_255, Ideal.div_coe (by norm_num)]
    exact mul_ne_zero h1.ne' (by exact_mod_cast (by norm_num : (1 / 255 : ℝ) ≠ 0))

/-- Dividing the factor by the scale first, or the normalized value by the scale, is the same. -/
theorem quotient_eq (r g : Fin 2048 → EReal) (k : Fin 2048) :
    r k * g k * Ideal.div (rsR (ssR r)) (scR r g) = Ideal.div (yR r g k) (scR r g) := by
  unfold Ideal.div
  rw [if_neg (scR_ne_zero r g), if_neg (scR_ne_zero r g), ← row_mul, mul_assoc (r k * g k)]

/-- The kernel's code is the reference's. -/
theorem code_eq (r g : Fin 2048 → EReal) (k : Fin 2048) :
    code1 (r k * g k)
      (mS (Finset.univ.inf fun k => r k * g k) (Finset.univ.sup fun k => r k * g k) (ssR r))
      (zpS (Finset.univ.inf fun k => r k * g k) (Finset.univ.sup fun k => r k * g k) (ssR r)) = codeR r g k := by
  unfold code1 codeR mS
  rw [zero_point_eq, scale_eq, rsS_eq, quotient_eq]

/-- A rounded value clipped to the int8 range is a whole number of that range. -/
theorem clip_int (x : EReal) : ∃ n : ℤ, -128 ≤ n ∧ n ≤ 127 ∧
    min (Ideal.ofBits .f32 0x42FE0000#32) (max (Ideal.ofBits .f32 0xC3000000#32)
      (Ideal.liftRound Ideal.roundHalfEven x)) = ((n : ℝ) : EReal) := by
  rw [bits_127, bits_neg128]
  induction x with
  | bot => exact ⟨-128, by norm_num, by norm_num, by rw [Ideal.liftRound_bot, max_eq_left bot_le, min_eq_right (by exact_mod_cast (by norm_num : (-128 : ℝ) ≤ 127))]; norm_num⟩
  | top => exact ⟨127, by norm_num, by norm_num, by rw [Ideal.liftRound_top, max_eq_right le_top, min_eq_left le_top]; norm_num⟩
  | coe x =>
    refine ⟨min 127 (max (-128) (Ideal.roundHalfEven x)), le_min (by norm_num) (le_max_left _ _), min_le_left _ _, ?_⟩
    rw [Ideal.liftRound_coe, ← EReal.coe_strictMono.monotone.map_max, ← EReal.coe_strictMono.monotone.map_min]
    push_cast
    rfl

/-- A whole number of the int8 range survives the conversion to a 32-bit integer and back. -/
theorem int_round_trip (n : ℤ) (h₁ : -128 ≤ n) (h₂ : n ≤ 127) :
    ((((Ideal.fptosi 32 ((n : ℝ) : EReal)).toInt : ℤ) : ℝ) : EReal) = ((n : ℝ) : EReal) := by
  have e : Ideal.fptosi 32 ((n : ℝ) : EReal) = BitVec.ofInt 32 n := by
    show BitVec.ofInt 32 (max (-(2 ^ 31 : ℕ)) (min ((2 ^ 31 : ℕ) - 1) (if (0 : ℝ) ≤ n then ⌊(n : ℝ)⌋ else ⌈(n : ℝ)⌉))) = _
    rw [Int.floor_intCast, Int.ceil_intCast, ite_self]
    congr 1
    omega
  rw [e, BitVec.toInt_ofInt]
  congr 2
  rw [Int.bmod_def]
  omega

/-- The zero point survives the conversion to a 32-bit integer and back. -/
theorem zpR_round_trip (r g : Fin 2048 → EReal) :
    ((((Ideal.fptosi 32 (zpR r g)).toInt : ℤ) : ℝ) : EReal) = zpR r g := by
  obtain ⟨n, h₁, h₂, e⟩ := clip_int (Ideal.ofBits .f32 0xC3000000#32 - Ideal.div (loR r g) (scR r g))
  unfold zpR
  rw [e, int_round_trip n h₁ h₂]

end Cert.KernelIdeal.Value
-- ==== Proof.Fold.lean ====
/-
  The two-step reductions of the kernel, over column tiles and then over lanes, are reductions over all 2048 columns.
-/
module

public import proofs.«01_k».proof.Proof.RowMath
public import proofs.«01_k».proof.Proof.Body

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- Every column is a lane of one of the sixteen column tiles. -/
theorem exists_col (k : Fin 2048) : ∃ c : Fin 16, ∃ l : Fin 128, col c.val l = k :=
  ⟨⟨k.val / 128, by omega⟩, ⟨k.val % 128, Nat.mod_lt _ (by decide)⟩, Fin.ext (by
    show (128 * (k.val / 128) + k.val % 128) % 2048 = k.val
    omega)⟩

/-- A running minimum of sixteen values is their infimum. -/
theorem chain_min (f : ℕ → EReal) : ∀ n, chain min f n = (Finset.range (n + 1)).inf f
  | 0 => by simp [chain]
  | n + 1 => by
    rw [Finset.range_add_one, Finset.inf_insert, chain, chain_min f n]
    exact inf_comm _ _

/-- A running maximum of sixteen values is their supremum. -/
theorem chain_max (f : ℕ → EReal) : ∀ n, chain max f n = (Finset.range (n + 1)).sup f
  | 0 => by simp [chain]
  | n + 1 => by
    rw [Finset.range_add_one, Finset.sup_insert, chain, chain_max f n]
    exact sup_comm _ _

/-- A running sum is a sum. -/
theorem chain_sum (f : ℕ → EReal) : ∀ n, chain (· + ·) f n = ∑ c ∈ Finset.range (n + 1), f c
  | 0 => by simp [chain]
  | n + 1 => by
    rw [Finset.sum_range_succ, chain, chain_sum f n]

/-- The kernel's row minimum is the minimum over all columns. -/
theorem rowMin_eq (T : FVec Ideal S1024x2048 .f32) (r : Fin 1024) :
    rowMin (mnB T) r = Finset.univ.inf fun k : Fin 2048 => (T (ix2 r k) : EReal) := by
  unfold rowMin
  rw [fold_min_eq]
  refine le_antisymm (Finset.le_inf fun k _ => ?_) (Finset.le_inf fun l _ => ?_)
  · obtain ⟨c, l, rfl⟩ := exists_col k
    refine (Finset.inf_le (Finset.mem_univ l)).trans ?_
    show chain min (fun c => T (ix2 r (col c l))) 15 ≤ _
    rw [chain_min]
    exact Finset.inf_le (f := fun c => T (ix2 r (col c l))) (Finset.mem_range.2 c.isLt)
  · show _ ≤ chain min (fun c => T (ix2 r (col c l))) 15
    rw [chain_min]
    exact Finset.le_inf fun c _ => Finset.inf_le (f := fun k : Fin 2048 => (T (ix2 r k) : EReal)) (Finset.mem_univ _)

/-- The kernel's row maximum is the maximum over all columns. -/
theorem rowMax_eq (T : FVec Ideal S1024x2048 .f32) (r : Fin 1024) :
    rowMax (mxB T) r = Finset.univ.sup fun k : Fin 2048 => (T (ix2 r k) : EReal) := by
  unfold rowMax
  rw [fold_max_eq]
  refine le_antisymm (Finset.sup_le fun l _ => ?_) (Finset.sup_le fun k _ => ?_)
  · show chain max (fun c => T (ix2 r (col c l))) 15 ≤ _
    rw [chain_max]
    exact Finset.sup_le fun c _ => Finset.le_sup (f := fun k : Fin 2048 => (T (ix2 r k) : EReal)) (Finset.mem_univ _)
  · obtain ⟨c, l, rfl⟩ := exists_col k
    refine le_trans ?_ (Finset.le_sup (Finset.mem_univ l))
    show _ ≤ chain max (fun c => T (ix2 r (col c l))) 15
    rw [chain_max]
    exact Finset.le_sup (f := fun c => T (ix2 r (col c l))) (Finset.mem_range.2 c.isLt)

/-- The kernel's row sum of squares is the sum over all columns. -/
theorem rowSum_eq (N : FVec Ideal S1024x2048 .bf16) (r : Fin 1024) :
    rowSum (ssB N) r = ssR fun k => (N (ix2 r k) : EReal) := by
  unfold rowSum ssR
  rw [Fin.sum_univ_tiles 16 128 rfl, Finset.sum_comm]
  refine Finset.sum_congr rfl fun l _ => ?_
  show chain (· + ·) (fun c => (N (ix2 r (col c l)) : EReal) * N (ix2 r (col c l))) 15 = _
  rw [chain_sum, ← Fin.sum_univ_eq_sum_range (fun c => (N (ix2 r (col c l)) : EReal) * N (ix2 r (col c l)))]
  refine Finset.sum_congr rfl fun c _ => ?_
  have e : col c.val l = ⟨c.val * 128 + l.val, by omega⟩ := Fin.ext (by
    show (128 * c.val + l.val) % 2048 = c.val * 128 + l.val
    omega)
  rw [e]

/-- The row of sums of a grid point's blocks. -/
def rowN (X R : FVec Ideal S1024x2048 .bf16) (r : Fin 1024) : Fin 2048 → EReal := fun k => X (ix2 r k) + R (ix2 r k)

/-- The row minimum of a grid point, in the row's own terms. -/
theorem mn_row (X R : FVec Ideal S1024x2048 .bf16) (G : FVec Ideal S8x2048 .f32) (g : Fin 2048 → EReal)
    (hG : ∀ (a : Fin 8) (k : Fin 2048), G (ix2 a k) = g k) (r : Fin 1024) :
    rowMin (mnB (tB X R G)) r = Finset.univ.inf fun k => rowN X R r k * g k := by
  rw [rowMin_eq]
  refine congrArg (Finset.inf _) (funext fun k => ?_)
  show ((X (ix2 r k) : EReal) + R (ix2 r k)) * G (ix2 _ k) = _
  rw [hG]; rfl

/-- The row maximum of a grid point, in the row's own terms. -/
theorem mx_row (X R : FVec Ideal S1024x2048 .bf16) (G : FVec Ideal S8x2048 .f32) (g : Fin 2048 → EReal)
    (hG : ∀ (a : Fin 8) (k : Fin 2048), G (ix2 a k) = g k) (r : Fin 1024) :
    rowMax (mxB (tB X R G)) r = Finset.univ.sup fun k => rowN X R r k * g k := by
  rw [rowMax_eq]
  refine congrArg (Finset.sup _) (funext fun k => ?_)
  show ((X (ix2 r k) : EReal) + R (ix2 r k)) * G (ix2 _ k) = _
  rw [hG]; rfl

/-- The row's sum of squares of a grid point, in the row's own terms. -/
theorem ss_row (X R : FVec Ideal S1024x2048 .bf16) (r : Fin 1024) :
    rowSum (ssB (nrB X R)) r = ssR (rowN X R r) := rowSum_eq _ _

/-- The codes of a grid point are the row equation's. -/
theorem codesP_at (X R : FVec Ideal S1024x2048 .bf16) (G : FVec Ideal S8x2048 .f32) (g : Fin 2048 → EReal)
    (hG : ∀ (a : Fin 8) (k : Fin 2048), G (ix2 a k) = g k) (r : Fin 1024) (k : Fin 2048) :
    codesP X R G (ix2 r k) = codeR (rowN X R r) g k := by
  rw [← code_eq]
  show code1 (((X (ix2 r k) : EReal) + R (ix2 r k)) * G (ix2 _ k))
      (mS (rowMin (mnB (tB X R G)) r) (rowMax (mxB (tB X R G)) r) (rowSum (ssB (nrB X R)) r))
      (zpS (rowMin (mnB (tB X R G)) r) (rowMax (mxB (tB X R G)) r) (rowSum (ssB (nrB X R)) r)) = _
  rw [hG, mn_row X R G g hG, mx_row X R G g hG, ss_row]; rfl

/-- The scales of a grid point are the row equation's. -/
theorem scaleP_at (X R : FVec Ideal S1024x2048 .bf16) (G : FVec Ideal S8x2048 .f32) (g : Fin 2048 → EReal)
    (hG : ∀ (a : Fin 8) (k : Fin 2048), G (ix2 a k) = g k) (a b : Fin 1) (r : Fin 1024) :
    scaleP X R G (ix3 a b r) = scR (rowN X R r) g := by
  rw [← scale_eq]
  show scS (rowMin (mnB (tB X R G)) r) (rowMax (mxB (tB X R G)) r) (rowSum (ssB (nrB X R)) r) = _
  rw [mn_row X R G g hG, mx_row X R G g hG, ss_row]

/-- The zero points of a grid point are the row equation's, as 32-bit integers. -/
theorem zpP_at (X R : FVec Ideal S1024x2048 .bf16) (G : FVec Ideal S8x2048 .f32) (g : Fin 2048 → EReal)
    (hG : ∀ (a : Fin 8) (k : Fin 2048), G (ix2 a k) = g k) (a b : Fin 1) (r : Fin 1024) :
    zpP X R G (ix3 a b r) = Ideal.fptosi 32 (zpR (rowN X R r) g) := by
  rw [← zero_point_eq]
  show Ideal.fptosi 32 (zpS (rowMin (mnB (tB X R G)) r) (rowMax (mxB (tB X R G)) r) (rowSum (ssB (nrB X R)) r)) = _
  rw [mn_row X R G g hG, mx_row X R G g hG, ss_row]

end Cert.KernelIdeal.Value
-- ==== Proof.RefRead.lean ====
/-
  The reference's values at an index, in terms of the row equations.
-/
module

public import proofs.«01_k».proof.Proof.RowMath
public import proofs.«01_k».proof.Proof.Gen.ReferenceIdeal.Read
public import Idealize.ShloMosaic.Lib.Pointwise
public import Idealize.ShloMosaic.Lib.IdealHost

@[expose] public section

set_option maxRecDepth 16384

noncomputable section

namespace Cert.ReferenceIdeal.Rows

open Cert.ReferenceIdeal Cert.ReferenceIdeal.Gen Cert.ReferenceIdeal.Read
open Idealize.ShloMosaic Idealize.ShloMosaic.TcCoe Idealize.ShloMosaic.Tactic
open Cert.KernelIdeal.Value (ssR rsR yR loR hiR scR zpR codeR bits_127 bits_neg128 zpR_round_trip fold_min_eq fold_max_eq)

variable (x0 x1 : FVec Ideal S53x1024x2048 .bf16) (x2 : FVec Ideal S2048 .bf16)

/-- The summed row of batch `b`, position `s`. -/
def row (b : Fin 53) (s : Fin 1024) : Fin 2048 → EReal := fun k => x0 (ix3 b s k) + x1 (ix3 b s k)

/-- The weights. -/
def wt : Fin 2048 → EReal := fun k => x2 (ix1 k)

/-- The sum of squares. -/
theorem v6_at (b : Fin 53) (s : Fin 1024) : val_main_v6 (F := Ideal) x0 x1 (ix2 b s) = ssR (row x0 x1 b s) := by
  rw [val_main_v6_apply]
  have e : ∀ k : Fin 2048, idx_main_v6 (ix2 b s) k = ix3 b s k := fun k =>
    funext fun a => match a with | ⟨0, _⟩ => rfl | ⟨1, _⟩ => rfl | ⟨2, _⟩ => rfl
  simp only [e]
  show Ideal.ofBits .f32 0x00000000#32 + ∑ k : Fin 2048, row x0 x1 b s k * row x0 x1 b s k = _
  rw [Ideal.ofBits_zero_f32, zero_add]
  rfl

/-- The row's factor. -/
theorem v12_at (b : Fin 53) (s : Fin 1024) (z : Fin 1) :
    val_main_v12 (F := Ideal) x0 x1 (ix3 b s z) = rsR (ssR (row x0 x1 b s)) := by
  rw [val_main_v12_apply, val_main_v11_apply, val_main_v10_apply, val_main_v9_apply, val_main_v8_apply, val_main_v7_apply,
    show idx_main_v7 (ix3 b s z) = ix2 b s from funext fun a => match a with | ⟨0, _⟩ => rfl | ⟨1, _⟩ => rfl, v6_at]
  rfl

/-- The normalized value. -/
theorem v18_at (b : Fin 53) (s : Fin 1024) (k : Fin 2048) :
    val_main_v18 (F := Ideal) x0 x1 x2 (ix3 b s k) = yR (row x0 x1 b s) (wt x2) k := by
  rw [val_main_v18_apply, val_main_v17_apply, val_main_v16_apply, val_main_v14_apply, val_main_v13_apply,
    show idx_main_v13 (ix3 b s k) = ix3 b s 0 from funext fun a => match a with | ⟨0, _⟩ => rfl | ⟨1, _⟩ => rfl | ⟨2, _⟩ => rfl,
    v12_at, show idx_main_v16 (idx_main_v17 (ix3 b s k)) = ix1 k from funext fun a => match a with | ⟨0, _⟩ => rfl]
  rfl

/-- The least normalized value of the row. -/
theorem v19_at (b : Fin 53) (s : Fin 1024) :
    val_main_v19 (F := Ideal) x0 x1 x2 (ix2 b s) = loR (row x0 x1 b s) (wt x2) := by
  have e : val_main_v19 (F := Ideal) x0 x1 x2 (ix2 b s)
      = Finset.fold min (Ideal.ofBits .f32 0x7F800000#32)
          (fun k : Fin 2048 => (val_main_v18 (F := Ideal) x0 x1 x2 (ix3 b s k) : EReal)) Finset.univ := by
    unfold val_main_v19
    generalize val_main_v18 (F := Ideal) x0 x1 x2 = y
    pointwise [val_main_cst_2]
  rw [e, fold_min_eq]
  exact congrArg (Finset.inf _) (funext fun k => v18_at x0 x1 x2 b s k)

/-- The greatest normalized value of the row. -/
theorem v21_at (b : Fin 53) (s : Fin 1024) :
    val_main_v21 (F := Ideal) x0 x1 x2 (ix2 b s) = hiR (row x0 x1 b s) (wt x2) := by
  have e : val_main_v21 (F := Ideal) x0 x1 x2 (ix2 b s)
      = Finset.fold max (Ideal.ofBits .f32 0xFF800000#32)
          (fun k : Fin 2048 => (val_main_v18 (F := Ideal) x0 x1 x2 (ix3 b s k) : EReal)) Finset.univ := by
    unfold val_main_v21
    generalize val_main_v18 (F := Ideal) x0 x1 x2 = y
    pointwise [val_main_cst_3]
  rw [e, fold_max_eq]
  exact congrArg (Finset.sup _) (funext fun k => v18_at x0 x1 x2 b s k)

/-- The least normalized value, on the size-one axis. -/
theorem v20_at (b : Fin 53) (s : Fin 1024) (z : Fin 1) :
    val_main_v20 (F := Ideal) x0 x1 x2 (ix3 b s z) = loR (row x0 x1 b s) (wt x2) := by
  rw [val_main_v20_apply,
    show idx_main_v20 (ix3 b s z) = ix2 b s from funext fun a => match a with | ⟨0, _⟩ => rfl | ⟨1, _⟩ => rfl, v19_at]

/-- The greatest normalized value, on the size-one axis. -/
theorem v22_at (b : Fin 53) (s : Fin 1024) (z : Fin 1) :
    val_main_v22 (F := Ideal) x0 x1 x2 (ix3 b s z) = hiR (row x0 x1 b s) (wt x2) := by
  rw [val_main_v22_apply,
    show idx_main_v22 (ix3 b s z) = ix2 b s from funext fun a => match a with | ⟨0, _⟩ => rfl | ⟨1, _⟩ => rfl, v21_at]

/-- Choosing by an equality test. -/
theorem select_oeq (a b x y : EReal) : Scalar.select (Ideal.cmp .oeq a b) x y = if a = b then x else y := by
  by_cases h : a = b <;> simp [Scalar.select, Ideal.cmp, h]

/-- The scale. -/
theorem v27_at (b : Fin 53) (s : Fin 1024) (z : Fin 1) :
    val_main_v27 (F := Ideal) x0 x1 x2 (ix3 b s z) = scR (row x0 x1 b s) (wt x2) := by
  rw [val_main_v27_apply, val_main_v26_apply, val_main_v25_apply, val_main_v24_apply, val_main_v23_apply,
    val_main_call0_v0_apply, v20_at, v22_at]
  show Scalar.select (Ideal.cmp .oeq _ _) (Ideal.ofBits .f32 0x3F800000#32) (Ideal.div (_ - _) (Ideal.ofBits .f32 0x437F0000#32)) = _
  rw [select_oeq, Ideal.ofBits_one_f32]
  rfl

/-- The lower clipping bound, converted from an integer. -/
theorem lower_bound : (FloatOps.sitofp (F := Ideal) .f32 4294967168#32 : EReal) = Ideal.ofBits .f32 0xC3000000#32 := by
  rw [bits_neg128]
  show (((4294967168#32).toInt : ℝ) : EReal) = _
  rw [show (4294967168#32).toInt = -128 from by decide]
  norm_num

/-- The upper clipping bound, converted from an integer. -/
theorem upper_bound : (FloatOps.sitofp (F := Ideal) .f32 127#32 : EReal) = Ideal.ofBits .f32 0x42FE0000#32 := by
  rw [bits_127]
  show (((127#32).toInt : ℝ) : EReal) = _
  rw [show (127#32).toInt = 127 from by decide]
  norm_num

/-- The zero point, before it is made an integer. -/
theorem v32_at (b : Fin 53) (s : Fin 1024) (z : Fin 1) :
    val_main_v32 (F := Ideal) x0 x1 x2 (ix3 b s z) = zpR (row x0 x1 b s) (wt x2) := by
  rw [val_main_v32_apply, val_main_call2_v4_apply, val_main_call2_v3_apply, val_main_call2_v2_apply, val_main_call2_v1_apply,
    val_main_call2_v0_apply, val_main_v31_apply, val_main_v30_apply, val_main_v29_apply, val_main_v28_apply, v20_at, v27_at,
    val_main_c_apply, val_main_c_7_apply, lower_bound, upper_bound]
  rfl

/-- The zero point. -/
theorem v33_at (b : Fin 53) (s : Fin 1024) (z : Fin 1) :
    val_main_v33 (F := Ideal) x0 x1 x2 (ix3 b s z) = Ideal.fptosi 32 (zpR (row x0 x1 b s) (wt x2)) := by
  rw [val_main_v33_apply, v32_at]; rfl

/-- The zero point, back as a float on every column. -/
theorem v38_at (b : Fin 53) (s : Fin 1024) (k : Fin 2048) :
    val_main_v38 (F := Ideal) x0 x1 x2 (ix3 b s k) = zpR (row x0 x1 b s) (wt x2) := by
  rw [val_main_v38_apply, val_main_v37_apply,
    show idx_main_v38 (ix3 b s k) = ix3 b s 0 from funext fun a => match a with | ⟨0, _⟩ => rfl | ⟨1, _⟩ => rfl | ⟨2, _⟩ => rfl,
    v33_at]
  exact zpR_round_trip _ _

/-- The code. -/
theorem v42_at (b : Fin 53) (s : Fin 1024) (k : Fin 2048) :
    val_main_v42 (F := Ideal) x0 x1 x2 (ix3 b s k) = codeR (row x0 x1 b s) (wt x2) k := by
  rw [val_main_v42_apply, val_main_v41_apply, val_main_v40_apply, val_main_call4_v4_apply, val_main_call4_v3_apply,
    val_main_call4_v2_apply, val_main_call4_v1_apply, val_main_call4_v0_apply, val_main_v39_apply, val_main_v36_apply,
    val_main_v35_apply, val_main_v34_apply, v18_at, v38_at,
    show idx_main_v34 (ix3 b s k) = ix3 b s 0 from funext fun a => match a with | ⟨0, _⟩ => rfl | ⟨1, _⟩ => rfl | ⟨2, _⟩ => rfl,
    v27_at, val_main_c_8_apply, val_main_c_9_apply, lower_bound, upper_bound]
  rfl

/-- Row `s` of batch `b`, in the array whose rows are the batches' rows one after the other. -/
def flat (b : Fin 53) (s : Fin 1024) : Fin 54272 := ⟨b.val * 1024 + s.val, by omega⟩

/-- The first result: the sum, rows flattened. -/
theorem out0_at (b : Fin 53) (s : Fin 1024) (k : Fin 2048) :
    val_main_v43 (F := Ideal) x0 x1 (ix2 (flat b s) k) = row x0 x1 b s k := by
  rw [val_main_v43_apply, show idx_main_v43 (ix2 (flat b s) k) = ix3 b s k from funext fun a => Fin.ext (by
    match a with
    | ⟨0, _⟩ => show ((b.val * 1024 + s.val) * 2048 + k.val) / 2097152 = b.val; omega
    | ⟨1, _⟩ => show ((b.val * 1024 + s.val) * 2048 + k.val) / 2048 % 1024 = s.val; omega
    | ⟨2, _⟩ => show ((b.val * 1024 + s.val) * 2048 + k.val) % 2048 = k.val; omega)]
  rfl

/-- The second result: the codes, rows flattened. -/
theorem out1_at (b : Fin 53) (s : Fin 1024) (k : Fin 2048) :
    val_main_v44 (F := Ideal) x0 x1 x2 (ix2 (flat b s) k) = codeR (row x0 x1 b s) (wt x2) k := by
  rw [val_main_v44_apply, show idx_main_v44 (ix2 (flat b s) k) = ix3 b s k from funext fun a => Fin.ext (by
    match a with
    | ⟨0, _⟩ => show ((b.val * 1024 + s.val) * 2048 + k.val) / 2097152 = b.val; omega
    | ⟨1, _⟩ => show ((b.val * 1024 + s.val) * 2048 + k.val) / 2048 % 1024 = s.val; omega
    | ⟨2, _⟩ => show ((b.val * 1024 + s.val) * 2048 + k.val) % 2048 = k.val; omega), v42_at]

/-- The third result: the scales, as one row of 1024 for each batch. -/
theorem out2_at (b : Fin 53) (z : Fin 1) (s : Fin 1024) :
    val_main_v45 (F := Ideal) x0 x1 x2 (ix3 b z s) = scR (row x0 x1 b s) (wt x2) := by
  rw [val_main_v45_apply, show idx_main_v45 (ix3 b z s) = ix3 b s 0 from funext fun a => Fin.ext (by
    match a with
    | ⟨0, _⟩ => show ((b.val * 1 + z.val) * 1024 + s.val) / 1024 = b.val; omega
    | ⟨1, _⟩ => show ((b.val * 1 + z.val) * 1024 + s.val) / 1 % 1024 = s.val; omega
    | ⟨2, _⟩ => rfl), v27_at]

/-- The fourth result: the zero points, as one row of 1024 for each batch. -/
theorem out3_at (b : Fin 53) (z : Fin 1) (s : Fin 1024) :
    val_main_v46 (F := Ideal) x0 x1 x2 (ix3 b z s) = Ideal.fptosi 32 (zpR (row x0 x1 b s) (wt x2)) := by
  rw [val_main_v46_apply, show idx_main_v46 (ix3 b z s) = ix3 b s 0 from funext fun a => Fin.ext (by
    match a with
    | ⟨0, _⟩ => show ((b.val * 1 + z.val) * 1024 + s.val) / 1024 = b.val; omega
    | ⟨1, _⟩ => show ((b.val * 1 + z.val) * 1024 + s.val) / 1 % 1024 = s.val; omega
    | ⟨2, _⟩ => rfl), v33_at]

end Cert.ReferenceIdeal.Rows
-- ==== Proof.Final.lean ====
/-
  The result arrays of the idealized kernel are the reference's.
-/
module

public import proofs.«01_k».proof.Proof.Run
public import proofs.«01_k».proof.Proof.Fold
public import proofs.«01_k».proof.Proof.RefRead
public import Idealize.ShloMosaic.Lib.Pipeline.ValueKit
public import Idealize.ShloMosaic.Lib.Claim

@[expose] public section

set_option maxRecDepth 16384

noncomputable section

namespace Cert.KernelIdeal.Value

open Idealize.ShloMosaic Idealize.ShloMosaic.TcCoe Idealize.ShloMosaic.Tactic
open Idealize.SL Idealize.SL.Sem
open Cert.KernelIdeal Cert.KernelIdeal.Gen
open Cert.ReferenceIdeal.Rows (row wt flat out0_at out1_at out2_at out3_at)

variable (m : (ℓ : Loc nD τ sig) → Buf (Elt Ideal) ℓ)

/-- The two addends and the weights, as the arguments hold them. -/
abbrev a0 (c : Dev nD) : FVec Ideal S53x1024x2048 .bf16 := m ((c.tc : Thread nD τ).loc main_arg0)
abbrev a1 (c : Dev nD) : FVec Ideal S53x1024x2048 .bf16 := m ((c.tc : Thread nD τ).loc main_arg1)
abbrev a2 (c : Dev nD) : FVec Ideal S2048 .bf16 := m ((c.tc : Thread nD τ).loc main_arg2)

/-- Grid point `t` takes block `t` of every array but the weights, of which it takes the whole. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0, 0]
    ∧ win0_6.index t = ![t.val, 0, 0] :=
  (by decide +kernel : ∀ t : Fin grid0.N, _)

/-- The batch a grid point handles. -/
def bt (t : Fin cfg0.N) : Fin 53 := ⟨t.val, t.isLt⟩

/-- An argument whose rows are flattened, at a flattened row. -/
theorem flatten_at (x : FVec Ideal S53x1024x2048 .bf16) (h) (b : Fin 53) (s : Fin 1024) (k : Fin 2048) :
    shapeCast S54272x2048 x h (ix2 (flat b s) k) = x (ix3 b s k) :=
  shapeCast_apply x h _ _ (by
    rewrite [Shape.rowMajor_val_three, Shape.rowMajor_val_two]
    rfl)

/-- The weights, converted and copied to eight rows, at an index. -/
theorem weights_at (x : FVec Ideal S2048 .bf16) (a : Fin 8) (k : Fin 2048) :
    broadcastInDim S8x2048 ![0, 1] bcast_S1x2048_S8x2048_0_1
      (broadcastInDim S1x2048 ![1] bcast_S2048_S1x2048_1 (extf .f32 x bitsLt_bf16_f32)) (ix2 a k) = wt x k := by
  pointwise [wt]

/-- The first addend's block. -/
theorem iblk0_at (c : Dev nD) (t : Fin cfg0.N) (s : Fin 1024) (k : Fin 2048) :
    iblk m c 0 t (ix2 s k) = a0 m c (ix3 (bt t) s k) := by
  have e : ((View.whole main_v3).slice (win0_0.rect t)).emb (ix2 s k) = ix2 (flat (bt t) s) k := by
    blk_ext [idx t, flat, bt]
  blk_simp [iblk]
  entry_read
  exact (congrArg (shapeCast _ (a0 m c) shapeCasts_S53x1024x2048_S54272x2048) e).trans (flatten_at (a0 m c) _ _ _ _)

/-- The second addend's block. -/
theorem iblk1_at (c : Dev nD) (t : Fin cfg0.N) (s : Fin 1024) (k : Fin 2048) :
    iblk m c 1 t (ix2 s k) = a1 m c (ix3 (bt t) s k) := by
  have e : ((View.whole main_v4).slice (win0_1.rect t)).emb (ix2 s k) = ix2 (flat (bt t) s) k := by
    blk_ext [idx t, flat, bt]
  blk_simp [iblk]
  entry_read
  exact (congrArg (shapeCast _ (a1 m c) shapeCasts_S53x1024x2048_S54272x2048) e).trans (flatten_at (a1 m c) _ _ _ _)

/-- The weights' block: eight equal rows. -/
theorem iblk2_at (c : Dev nD) (t : Fin cfg0.N) (a : Fin 8) (k : Fin 2048) :
    iblk m c 2 t (ix2 a k) = wt (a2 m c) k := by
  have e : ((View.whole main_v2).slice (win0_2.rect t)).emb (ix2 a k) = ix2 a k := by
    blk_ext [idx t]
  blk_simp [iblk]
  entry_read
  exact (congrArg (broadcastInDim S8x2048 ![0, 1] bcast_S1x2048_S8x2048_0_1
      (broadcastInDim S1x2048 ![1] bcast_S2048_S1x2048_1 (extf .f32 (a2 m c) bitsLt_bf16_f32))) e).trans (weights_at (a2 m c) a k)

/-- A row of the grid point's blocks is a row of the batch. -/
theorem rowN_eq (c : Dev nD) (t : Fin cfg0.N) (s : Fin 1024) :
    rowN (iblk m c 0 t) (iblk m c 1 t) s = row (a0 m c) (a1 m c) (bt t) s :=
  funext fun k => congrArg₂ (fun a b : EReal => a + b) (iblk0_at m c t s k) (iblk1_at m c t s k)

/-- The first result: the sums, at one element of one grid point. -/
theorem point0 (c : Dev nD) (t : Fin cfg0.N) (y : S1024x2048.Idx) :
    nrB (iblk m c 0 t) (iblk m c 1 t) y
      = Cert.ReferenceIdeal.Read.val_main_v43 (F := Ideal) (a0 m c) (a1 m c) ((win0_3.blk t).view.emb y) := by
  obtain ⟨s, k, rfl⟩ : ∃ (s : Fin 1024) (k : Fin 2048), y = (ix2 s k) := ⟨y 0, y 1, by blk_ext⟩
  have e : (win0_3.blk t).view.emb (ix2 s k) = (ix2 (flat (bt t) s) k) := by
    blk_ext [idx t, flat, bt]
  refine Eq.trans ?_ (congrArg (Cert.ReferenceIdeal.Read.val_main_v43 (F := Ideal) (a0 m c) (a1 m c)) e).symm
  exact (congrFun (rowN_eq m c t s) k).trans (out0_at (a0 m c) (a1 m c) (bt t) s k).symm

/-- The first result: the sums. -/
theorem final0 (c : Dev nD) :
    (dats m 0 c).arrAt 3 (cfgs 0).N = Cert.ReferenceIdeal.Read.val_main_v43 (F := Ideal) (a0 m c) (a1 m c) := by
  refine (dats m 0 c).arrAt_eq_of_covers 3 _ (by decide +kernel) fun t hf y => ?_
  blk_simp
  rw [after0_3]
  exact point0 m c t y

/-- The second result: the codes, at one element of one grid point. -/
theorem point1 (c : Dev nD) (t : Fin cfg0.N) (y : S1024x2048.Idx) :
    codesP (iblk m c 0 t) (iblk m c 1 t) (iblk m c 2 t) y
      = Cert.ReferenceIdeal.Read.val_main_v44 (F := Ideal) (a0 m c) (a1 m c) (a2 m c) ((win0_4.blk t).view.emb y) := by
  obtain ⟨s, k, rfl⟩ : ∃ (s : Fin 1024) (k : Fin 2048), y = (ix2 s k) := ⟨y 0, y 1, by blk_ext⟩
  have e : (win0_4.blk t).view.emb (ix2 s k) = (ix2 (flat (bt t) s) k) := by
    blk_ext [idx t, flat, bt]
  refine Eq.trans ?_ (congrArg (Cert.ReferenceIdeal.Read.val_main_v44 (F := Ideal) (a0 m c) (a1 m c) (a2 m c)) e).symm
  exact ((codesP_at _ _ _ _ (iblk2_at m c t) s k).trans (by rw [rowN_eq])).trans (out1_at (a0 m c) (a1 m c) (a2 m c) (bt t) s k).symm

/-- The second result: the codes. -/
theorem final1 (c : Dev nD) :
    (dats m 0 c).arrAt 4 (cfgs 0).N = Cert.ReferenceIdeal.Read.val_main_v44 (F := Ideal) (a0 m c) (a1 m c) (a2 m c) := by
  refine (dats m 0 c).arrAt_eq_of_covers 4 _ (by decide +kernel) fun t hf y => ?_
  blk_simp
  rw [after0_4]
  exact point1 m c t y

/-- The third result: the scales, at one element of one grid point. -/
theorem point2 (c : Dev nD) (t : Fin cfg0.N) (y : S1x1x1024.Idx) :
    scaleP (iblk m c 0 t) (iblk m c 1 t) (iblk m c 2 t) y
      = Cert.ReferenceIdeal.Read.val_main_v45 (F := Ideal) (a0 m c) (a1 m c) (a2 m c) ((win0_5.blk t).view.emb y) := by
  obtain ⟨a, b, s, rfl⟩ : ∃ (a b : Fin 1) (s : Fin 1024), y = (ix3 a b s) := ⟨y 0, y 1, y 2, by blk_ext⟩
  have e : (win0_5.blk t).view.emb (ix3 a b s) = (ix3 (bt t) b s) := by
    blk_ext [idx t, flat, bt]
  refine Eq.trans ?_ (congrArg (Cert.ReferenceIdeal.Read.val_main_v45 (F := Ideal) (a0 m c) (a1 m c) (a2 m c)) e).symm
  exact ((scaleP_at _ _ _ _ (iblk2_at m c t) a b s).trans (by rw [rowN_eq])).trans (out2_at (a0 m c) (a1 m c) (a2 m c) (bt t) b s).symm

/-- The third result: the scales. -/
theorem final2 (c : Dev nD) :
    (dats m 0 c).arrAt 5 (cfgs 0).N = Cert.ReferenceIdeal.Read.val_main_v45 (F := Ideal) (a0 m c) (a1 m c) (a2 m c) := by
  refine (dats m 0 c).arrAt_eq_of_covers 5 _ (by decide +kernel) fun t hf y => ?_
  blk_simp
  rw [after0_5]
  exact point2 m c t y

/-- The fourth result: the zero points, at one element of one grid point. -/
theorem point3 (c : Dev nD) (t : Fin cfg0.N) (y : S1x1x1024.Idx) :
    zpP (iblk m c 0 t) (iblk m c 1 t) (iblk m c 2 t) y
      = Cert.ReferenceIdeal.Read.val_main_v46 (F := Ideal) (a0 m c) (a1 m c) (a2 m c) ((win0_6.blk t).view.emb y) := by
  obtain ⟨a, b, s, rfl⟩ : ∃ (a b : Fin 1) (s : Fin 1024), y = (ix3 a b s) := ⟨y 0, y 1, y 2, by blk_ext⟩
  have e : (win0_6.blk t).view.emb (ix3 a b s) = (ix3 (bt t) b s) := by
    blk_ext [idx t, flat, bt]
  refine Eq.trans ?_ (congrArg (Cert.ReferenceIdeal.Read.val_main_v46 (F := Ideal) (a0 m c) (a1 m c) (a2 m c)) e).symm
  exact ((zpP_at _ _ _ _ (iblk2_at m c t) a b s).trans (by rw [rowN_eq])).trans (out3_at (a0 m c) (a1 m c) (a2 m c) (bt t) b s).symm

/-- The fourth result: the zero points. -/
theorem final3 (c : Dev nD) :
    (dats m 0 c).arrAt 6 (cfgs 0).N = Cert.ReferenceIdeal.Read.val_main_v46 (F := Ideal) (a0 m c) (a1 m c) (a2 m c) := by
  refine (dats m 0 c).arrAt_eq_of_covers 6 _ (by decide +kernel) fun t hf y => ?_
  blk_simp
  rw [after0_6]
  exact point3 m c t y

end Cert.KernelIdeal.Value
-- ==== Proof.lean ====
/-
  The claims of the certificate, put together: the three frames, that the idealized kernel differs from the kernel only by
  naming a constant, and that the idealized kernel and the reference end with the same four results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Run
public import proofs.«01_k».proof.Proof.Final
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The kernel runs to its end on every input, leaves its arguments alone and every semaphore at zero. -/
theorem frame_kernel : Cert.quiescent_Kernel (hKernel := Cert.Kernel.Gen.facts) :=
  fun m g _ => Cert.Kernel.Frame.frame m g

/-- So does the idealized kernel. -/
theorem frame_ideal : Cert.quiescent_KernelIdeal (hKernelIdeal := Cert.KernelIdeal.Gen.facts) :=
  fun m g _ => Cert.KernelIdeal.Value.frame m g

/-- So does the reference, which has no semaphore. -/
theorem frame_reference : Cert.quiescent_ReferenceIdeal (hReferenceIdeal := Cert.ReferenceIdeal.Gen.facts) :=
  fun m g _ => (θ_run Cert.ReferenceIdeal.defs _ _).mono
    (fun r h => ⟨fun c => (h c).2.2.2.2, sem_eq_zero_of_no_sems (by decide) r.2⟩)
    (Cert.ReferenceIdeal.Value.run (F := Ideal) m g)

/-- The idealized kernel is the kernel with the nearest float to one 255th named as one 255th. -/
theorem preserves : Cert.preserves_Kernel_KernelIdeal :=
  IdealRules.named_const.statement Cert.KernelIdeal.κ "inv_levels" .f32 0x3B808081#32 _ rfl

/-- The reference ends with its four results as the named terms over its arguments. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal)))
      ⟨m, fun _ => 0, g⟩ fun r => ∀ c : Dev Cert.ReferenceIdeal.nD,
      r.2.mem ((c.tc : Thread _ _).loc Cert.ReferenceIdeal.main_v43)
        = Cert.ReferenceIdeal.Read.val_main_v43 (F := Ideal) (m ((c.tc : Thread _ _).loc Cert.ReferenceIdeal.main_arg0))
            (m ((c.tc : Thread _ _).loc Cert.ReferenceIdeal.main_arg1))
      ∧ r.2.mem ((c.tc : Thread _ _).loc Cert.ReferenceIdeal.main_v44)
        = Cert.ReferenceIdeal.Read.val_main_v44 (F := Ideal) (m ((c.tc : Thread _ _).loc Cert.ReferenceIdeal.main_arg0))
            (m ((c.tc : Thread _ _).loc Cert.ReferenceIdeal.main_arg1)) (m ((c.tc : Thread _ _).loc Cert.ReferenceIdeal.main_arg2))
      ∧ r.2.mem ((c.tc : Thread _ _).loc Cert.ReferenceIdeal.main_v45)
        = Cert.ReferenceIdeal.Read.val_main_v45 (F := Ideal) (m ((c.tc : Thread _ _).loc Cert.ReferenceIdeal.main_arg0))
            (m ((c.tc : Thread _ _).loc Cert.ReferenceIdeal.main_arg1)) (m ((c.tc : Thread _ _).loc Cert.ReferenceIdeal.main_arg2))
      ∧ r.2.mem ((c.tc : Thread _ _).loc Cert.ReferenceIdeal.main_v46)
        = Cert.ReferenceIdeal.Read.val_main_v46 (F := Ideal) (m ((c.tc : Thread _ _).loc Cert.ReferenceIdeal.main_arg0))
            (m ((c.tc : Thread _ _).loc Cert.ReferenceIdeal.main_arg1)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2) :=
  (θ_run Cert.ReferenceIdeal.defs _ _).mono
    (fun _ h c => ⟨(h c).1.trans (Cert.ReferenceIdeal.Read.val_main_v43_eq _ _),
      (h c).2.1.trans (Cert.ReferenceIdeal.Read.val_main_v44_eq m c),
      (h c).2.2.1.trans (Cert.ReferenceIdeal.Read.val_main_v45_eq m c),
      (h c).2.2.2.1.trans (Cert.ReferenceIdeal.Read.val_main_v46_eq m c), (h c).2.2.2.2⟩)
    (Cert.ReferenceIdeal.Value.run (F := Ideal) m g)

/-- The idealized kernel and the reference, from the same arguments, end with the same four results. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run_main m g
  · refine (θ_run Cert.ReferenceIdeal.defs _ _).mono (fun _ h c => ?_) (reference_run m' g')
    obtain ⟨e0, e1, e2⟩ := hagree c
    obtain ⟨h0, h1, h2, h3, k0, k1, k2⟩ := h c
    rw [e0, e1] at h0
    rw [e0, e1, e2] at h1 h2 h3
    exact ⟨h0.trans (Cert.KernelIdeal.Value.final0 m c).symm, h1.trans (Cert.KernelIdeal.Value.final1 m c).symm,
      h2.trans (Cert.KernelIdeal.Value.final2 m c).symm, h3.trans (Cert.KernelIdeal.Value.final3 m c).symm, k0, k1, k2⟩

/-- Every claim of the certificate. -/
theorem claim : Cert.Claim := ⟨Cert.Kernel.Gen.facts, Cert.KernelIdeal.Gen.facts, Cert.ReferenceIdeal.Gen.facts,
  frame_kernel, frame_ideal, frame_reference, preserves, algebraic⟩

end Cert.Proof

end
